-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_as_drawn [hPre_inputs_as_drawn : Cert.Pre_inputs_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_as_drawn [hPre_inputs_as_drawn : Cert.Pre_inputs_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_inputs_as_drawn [hKernelIdeal : Cert.KernelIdeal.Facts] [hPre_inputs_as_drawn : Cert.Pre_inputs_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_inputs_as_drawn [hReferenceIdeal : Cert.ReferenceIdeal.Facts] [hPre_inputs_as_drawn : Cert.Pre_inputs_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_inputs_as_drawn [hKernelIdeal : Cert.KernelIdeal.Facts] [hReferenceIdeal : Cert.ReferenceIdeal.Facts] [hPre_inputs_as_drawn : Cert.Pre_inputs_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_inputs_as_drawn : Cert.Pre_inputs_as_drawn.Facts),
    quiescent_Kernel (hKernel := hKernel)
    ∧ quiescent_KernelIdeal (hKernelIdeal := hKernelIdeal)
    ∧ quiescent_KernelIdeal_pre_inputs_as_drawn (hKernelIdeal := hKernelIdeal) (hPre_inputs_as_drawn := hPre_inputs_as_drawn)
    ∧ quiescent_ReferenceIdeal (hReferenceIdeal := hReferenceIdeal)
    ∧ quiescent_ReferenceIdeal_pre_inputs_as_drawn (hReferenceIdeal := hReferenceIdeal) (hPre_inputs_as_drawn := hPre_inputs_as_drawn)
    ∧ preserves_Kernel_KernelIdeal
    ∧ algebraic_KernelIdeal_ReferenceIdeal_pre_inputs_as_drawn (hKernelIdeal := hKernelIdeal) (hReferenceIdeal := hReferenceIdeal) (hPre_inputs_as_drawn := hPre_inputs_as_drawn)
-- ==== Pre_inputs_as_drawn.lean ====
abbrev S1024x128 : Shape := ⟨2, ![1024, 128]⟩
abbrev S100000x128 : Shape := ⟨2, ![100000, 128]⟩
abbrev S1024 : Shape := ⟨1, ![1024]⟩
abbrev S_ : Shape := ⟨0, ![]⟩

class Facts : Prop where
  bcast_S_S1024x128 : S_.BroadcastsInDim S1024x128 (![] : Fin 0 → Fin S1024x128.rank)
  bcast_S_S100000x128 : S_.BroadcastsInDim S100000x128 (![] : Fin 0 → Fin S100000x128.rank)
  bcast_S_S1024 : S_.BroadcastsInDim S1024 (![] : Fin 0 → Fin S1024.rank)
  reducesTo_S1024x128_S_d0_1 : S1024x128.ReducesTo [0, 1] S_
  h_S_ : 0 < S_.numel
  reducesTo_S100000x128_S_d0_1 : S100000x128.ReducesTo [0, 1] S_
  reducesTo_S1024_S_d0 : S1024.ReducesTo [0] S_

variable [Facts]

def fn {F : FTy → Type} [FloatOps F] (main_arg0 : FVec F S1024x128 .f32) (main_arg1 : FVec F S100000x128 .f32) (main_arg2 : IVec S1024 32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_v3 : FVec F S100000x128 .f32 := Host.absf main_arg1
  let main_cst_0 : FVec F S_ .f32 := constant S_ .f32 0x7F800000#32
  let main_v4 : FVec F S100000x128 .f32 := broadcastInDim S100000x128 ![] bcast_S_S100000x128 main_cst_0
  let main_v5 : IVec S100000x128 1 := cmpf .olt main_v3 main_v4
  let main_c : IVec S_ 32 := constantI S_ 32 0#32
  let main_v6 : IVec S1024 32 := broadcastInDim S1024 ![] bcast_S_S1024 main_c
  let main_v7 : IVec S1024 1 := cmpi .sge main_arg2 main_v6
  let main_c_1 : IVec S_ 32 := constantI S_ 32 100000#32
  let main_v8 : IVec S1024 32 := broadcastInDim S1024 ![] bcast_S_S1024 main_c_1
  let main_v9 : IVec S1024 1 := cmpi .slt main_arg2 main_v8
  let main_v10 : IVec S1024 1 := andi main_v7 main_v9
  let main_c_2 : IVec S_ 1 := constantI S_ 1 1#1
  let main_v11 : IVec S_ 1 := (fun x v => Host.reduce IntOp.andi x v reducesTo_S1024x128_S_d0_1 h_S_) main_v2 main_c_2
  let main_c_3 : IVec S_ 1 := constantI S_ 1 1#1
  let main_v12 : IVec S_ 1 := (fun x v => Host.reduce IntOp.andi x v reducesTo_S100000x128_S_d0_1 h_S_) main_v5 main_c_3
  let main_v13 : IVec S_ 1 := andi main_v11 main_v12
  let main_c_4 : IVec S_ 1 := constantI S_ 1 1#1
  let main_v14 : IVec S_ 1 := (fun x v => Host.reduce IntOp.andi x v reducesTo_S1024_S_d0 h_S_) main_v10 main_c_4
  let main_v15 : IVec S_ 1 := andi main_v13 main_v14
  main_v15
-- ==== Kernel.lean ====
abbrev S1024x128 : Shape := ⟨2, ![1024, 128]⟩
abbrev S100000x128 : Shape := ⟨2, ![100000, 128]⟩
abbrev S1024 : Shape := ⟨1, ![1024]⟩
abbrev S1024x100000 : Shape := ⟨2, ![1024, 100000]⟩
abbrev S256x128 : Shape := ⟨2, ![256, 128]⟩
abbrev S2048x128 : Shape := ⟨2, ![2048, 128]⟩
abbrev S256x2048 : Shape := ⟨2, ![256, 2048]⟩
abbrev S2048 : Shape := ⟨1, ![2048]⟩
abbrev S1x2048 : Shape := ⟨2, ![1, 2048]⟩
abbrev S1024x750 : Shape := ⟨2, ![1024, 750]⟩
abbrev S1024x1 : Shape := ⟨2, ![1024, 1]⟩
abbrev S1024x751 : Shape := ⟨2, ![1024, 751]⟩
abbrev S_ : Shape := ⟨0, ![]⟩
abbrev S1024x751x1 : Shape := ⟨3, ![1024, 751, 1]⟩
abbrev S1 : Shape := ⟨1, ![1]⟩
abbrev S1x1x1 : Shape := ⟨3, ![1, 1, 1]⟩
abbrev S1024x1x1 : Shape := ⟨3, ![1024, 1, 1]⟩
abbrev S1024x751x2 : Shape := ⟨3, ![1024, 751, 2]⟩

abbrev nBuf : Space → Nat
  | .hbm => 100
  | .vmem => 8
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S1024, .i32⟩
  | .hbm, ⟨3, _⟩ => ⟨S1024x100000, .f32⟩
  | .hbm, ⟨4, _⟩ => ⟨S1024x100000, .f32⟩
  | .hbm, ⟨5, _⟩ => ⟨S1024x750, .f32⟩
  | .hbm, ⟨6, _⟩ => ⟨S1024x750, .i32⟩
  | .hbm, ⟨7, _⟩ => ⟨S1024x1, .i32⟩
  | .hbm, ⟨8, _⟩ => ⟨S1024x751, .i32⟩
  | .hbm, ⟨9, _⟩ => ⟨S_, .i32⟩
  | .hbm, ⟨10, _⟩ => ⟨S1024x751, .i32⟩
  | .hbm, ⟨11, _⟩ => ⟨S1024x751, .i1⟩
  | .hbm, ⟨12, _⟩ => ⟨S_, .i32⟩
  | .hbm, ⟨13, _⟩ => ⟨S1024x751, .i32⟩
  | .hbm, ⟨14, _⟩ => ⟨S1024x751, .i32⟩
  | .hbm, ⟨15, _⟩ => ⟨S1024x751, .i32⟩
  | .hbm, ⟨16, _⟩ => ⟨S1024x751x1, .i32⟩
  | .hbm, ⟨17, _⟩ => ⟨S1, .i32⟩
  | .hbm, ⟨18, _⟩ => ⟨S_, .i32⟩
  | .hbm, ⟨19, _⟩ => ⟨S1024x751x1, .i32⟩
  | .hbm, ⟨20, _⟩ => ⟨S1024x751x1, .i1⟩
  | .hbm, ⟨21, _⟩ => ⟨S1x1x1, .i32⟩
  | .hbm, ⟨22, _⟩ => ⟨S1024x751x1, .i32⟩
  | .hbm, ⟨23, _⟩ => ⟨S1024x751x1, .i1⟩
  | .hbm, ⟨24, _⟩ => ⟨S1024x751x1, .i1⟩
  | .hbm, ⟨25, _⟩ => ⟨S_, .i1⟩
  | .hbm, ⟨26, _⟩ => ⟨S1024x751, .i1⟩
  | .hbm, ⟨27, _⟩ => ⟨S1024x751, .f32⟩
  | .hbm, ⟨28, _⟩ => ⟨S_, .f32⟩
  | .hbm, ⟨29, _⟩ => ⟨S1024x751, .f32⟩
  | .hbm, ⟨30, _⟩ => ⟨S1024x751, .f32⟩
  | .hbm, ⟨31, _⟩ => ⟨S_, .f32⟩
  | .hbm, ⟨32, _⟩ => ⟨S1024x751, .f32⟩
  | .hbm, ⟨33, _⟩ => ⟨S1024x751, .f32⟩
  | .hbm, ⟨34, _⟩ => ⟨S_, .f32⟩
  | .hbm, ⟨35, _⟩ => ⟨S1024, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S1024x1, .f32⟩
  | .hbm, ⟨40, _⟩ => ⟨S1024x751, .f32⟩
  | .hbm, ⟨41, _⟩ => ⟨S1024x751, .f32⟩
  | .hbm, ⟨42, _⟩ => ⟨S1024x751, .f32⟩
  | .hbm, ⟨43, _⟩ => ⟨S_, .f32⟩
  | .hbm, ⟨44, _⟩ => ⟨S1024, .f32⟩
  | .hbm, ⟨45, _⟩ => ⟨S1024x1, .f32⟩
  | .hbm, ⟨46, _⟩ => ⟨S1024x751, .f32⟩
  | .hbm, ⟨47, _⟩ => ⟨S1024x751, .f32⟩
  | .hbm, ⟨48, _⟩ => ⟨S1024x751, .i32⟩
  | .hbm, ⟨49, _⟩ => ⟨S_, .f32⟩
  | .hbm, ⟨50, _⟩ => ⟨S_, .i32⟩
  | .hbm, ⟨51, _⟩ => ⟨S1024, .f32⟩
  | .hbm, ⟨52, _⟩ => ⟨S1024, .i32⟩
  | .hbm, ⟨53, _⟩ => ⟨S1024x1, .i32⟩
  | .hbm, ⟨54, _⟩ => ⟨S_, .i32⟩
  | .hbm, ⟨55, _⟩ => ⟨S1024x1, .i32⟩
  | .hbm, ⟨56, _⟩ => ⟨S1024x1, .i1⟩
  | .hbm, ⟨57, _⟩ => ⟨S_, .i32⟩
  | .hbm, ⟨58, _⟩ => ⟨S1024x1, .i32⟩
  | .hbm, ⟨59, _⟩ => ⟨S1024x1, .i32⟩
  | .hbm, ⟨60, _⟩ => ⟨S1024x1, .i32⟩
  | .hbm, ⟨61, _⟩ => ⟨S1024x1x1, .i32⟩
  | .hbm, ⟨62, _⟩ => ⟨S1, .i32⟩
  | .hbm, ⟨63, _⟩ => ⟨S_, .i32⟩
  | .hbm, ⟨64, _⟩ => ⟨S1024x1x1, .i32⟩
  | .hbm, ⟨65, _⟩ => ⟨S1024x1x1, .i1⟩
  | .hbm, ⟨66, _⟩ => ⟨S1x1x1, .i32⟩
  | .hbm, ⟨67, _⟩ => ⟨S1024x1x1, .i32⟩
  | .hbm, ⟨68, _⟩ => ⟨S1024x1x1, .i1⟩
  | .hbm, ⟨69, _⟩ => ⟨S1024x1x1, .i1⟩
  | .hbm, ⟨70, _⟩ => ⟨S_, .i1⟩
  | .hbm, ⟨71, _⟩ => ⟨S1024x1, .i1⟩
  | .hbm, ⟨72, _⟩ => ⟨S1024x1, .i32⟩
  | .hbm, ⟨73, _⟩ => ⟨S_, .i32⟩
  | .hbm, ⟨74, _⟩ => ⟨S1024x1, .i32⟩
  | .hbm, ⟨75, _⟩ => ⟨S1024x1, .i32⟩
  | .hbm, ⟨76, _⟩ => ⟨S1024, .i32⟩
  | .hbm, ⟨77, _⟩ => ⟨S_, .f32⟩
  | .hbm, ⟨78, _⟩ => ⟨S1024x100000, .f32⟩
  | .hbm, ⟨79, _⟩ => ⟨S1024, .i32⟩
  | .hbm, ⟨80, _⟩ => ⟨S1024x1, .i32⟩
  | .hbm, ⟨81, _⟩ => ⟨S_, .i32⟩
  | .hbm, ⟨82, _⟩ => ⟨S1024x1, .i32⟩
  | .hbm, ⟨83, _⟩ => ⟨S1024x1, .i1⟩
  | .hbm, ⟨84, _⟩ => ⟨S_, .i32⟩
  | .hbm, ⟨85, _⟩ => ⟨S1024x1, .i32⟩
  | .hbm, ⟨86, _⟩ => ⟨S1024x1, .i32⟩
  | .hbm, ⟨87, _⟩ => ⟨S1024x1, .i32⟩
  | .hbm, ⟨88, _⟩ => ⟨S_, .i32⟩
  | .hbm, ⟨89, _⟩ => ⟨S1024x751, .i32⟩
  | .hbm, ⟨90, _⟩ => ⟨S1024x751, .i1⟩
  | .hbm, ⟨91, _⟩ => ⟨S_, .i32⟩
  | .hbm, ⟨92, _⟩ => ⟨S1024x751, .i32⟩
  | .hbm, ⟨93, _⟩ => ⟨S1024x751, .i32⟩
  | .hbm, ⟨94, _⟩ => ⟨S1024x751, .i32⟩
  | .hbm, ⟨95, _⟩ => ⟨S1024x751, .i32⟩
  | .hbm, ⟨96, _⟩ => ⟨S1024x751x1, .i32⟩
  | .hbm, ⟨97, _⟩ => ⟨S1024x751x1, .i32⟩
  | .hbm, ⟨98, _⟩ => ⟨S1024x751x2, .i32⟩
  | .hbm, ⟨99, _⟩ => ⟨S1024x100000, .f32⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_values : Ref sig .tc := ⟨.hbm, 5, rfl⟩
abbrev main_indices : Ref sig .tc := ⟨.hbm, 6, rfl⟩
abbrev main_v1 : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v3 : Ref sig .tc := ⟨.hbm, 30, rfl⟩
abbrev main_cst : Ref sig .tc := ⟨.hbm, 31, rfl⟩
abbrev main_v4 : Ref sig .tc := ⟨.hbm, 32, rfl⟩
abbrev main_v5 : Ref sig .tc := ⟨.hbm, 33, rfl⟩
abbrev main_cst_0 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_2 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_call1_v0 : Ref sig .tc := ⟨.hbm, 48, rfl⟩
abbrev main_call1_cst : Ref sig .tc := ⟨.hbm, 49, rfl⟩
abbrev main_call1_c : Ref sig .tc := ⟨.hbm, 50, rfl⟩
abbrev main_call1_v1_0 : Ref sig .tc := ⟨.hbm, 51, rfl⟩
abbrev main_v17 : Ref sig .tc := ⟨.hbm, 52, rfl⟩
abbrev main_v18 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_c_4 : Ref sig .tc := ⟨.hbm, 73, rfl⟩
abbrev main_call2_v14 : Ref sig .tc := ⟨.hbm, 74, rfl⟩
abbrev main_v19 : Ref sig .tc := ⟨.hbm, 75, rfl⟩
abbrev main_v20 : Ref sig .tc := ⟨.hbm, 76, rfl⟩
abbrev main_cst_3 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_c : Ref sig .tc := ⟨.hbm, 81, rfl⟩
abbrev main_v24 : Ref sig .tc := ⟨.hbm, 82, rfl⟩
abbrev main_v25 : Ref sig .tc := ⟨.hbm, 83, rfl⟩
abbrev main_c_4 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_c_5 : Ref sig .tc := ⟨.hbm, 88, rfl⟩
abbrev main_v29 : Ref sig .tc := ⟨.hbm, 89, rfl⟩
abbrev main_v30 : Ref sig .tc := ⟨.hbm, 90, rfl⟩
abbrev main_c_6 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 49], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S1024x128 : Shape := ⟨2, ![1024, 128]⟩
abbrev S100000x128 : Shape := ⟨2, ![100000, 128]⟩
abbrev S1024 : Shape := ⟨1, ![1024]⟩
abbrev S_ : Shape := ⟨0, ![]⟩
abbrev S1024x1 : Shape := ⟨2, ![1024, 1]⟩
abbrev S100000 : Shape := ⟨1, ![100000]⟩
abbrev S128x100000 : Shape := ⟨2, ![128, 100000]⟩
abbrev S1024x100000 : Shape := ⟨2, ![1024, 100000]⟩
abbrev S1x100000 : Shape := ⟨2, ![1, 100000]⟩
abbrev S1024x750 : Shape := ⟨2, ![1024, 750]⟩
abbrev S1024x751 : Shape := ⟨2, ![1024, 751]⟩
abbrev S1024x751x1 : Shape := ⟨3, ![1024, 751, 1]⟩
abbrev S1 : Shape := ⟨1, ![1]⟩
abbrev S1x1x1 : Shape := ⟨3, ![1, 1, 1]⟩
abbrev S1024x751x128 : Shape := ⟨3, ![1024, 751, 128]⟩
abbrev S1024x1x1 : Shape := ⟨3, ![1024, 1, 1]⟩
abbrev S1024x751x2 : Shape := ⟨3, ![1024, 751, 2]⟩

abbrev nBuf : Space → Nat
  | .hbm => 118
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S1024, .i32⟩
  | .hbm, ⟨3, _⟩ => ⟨S1024x128, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S100000x128, .f32⟩
  | .hbm, ⟨8, _⟩ => ⟨S_, .f32⟩
  | .hbm, ⟨9, _⟩ => ⟨S100000, .f32⟩
  | .hbm, ⟨10, _⟩ => ⟨S128x100000, .f32⟩
  | .hbm, ⟨11, _⟩ => ⟨S1024x100000, .f32⟩
  | .hbm, ⟨12, _⟩ => ⟨S_, .f32⟩
  | .hbm, ⟨13, _⟩ => ⟨S1024x100000, .f32⟩
  | .hbm, ⟨14, _⟩ => ⟨S1024x100000, .f32⟩
  | .hbm, ⟨15, _⟩ => ⟨S1024x100000, .f32⟩
  | .hbm, ⟨16, _⟩ => ⟨S1024x100000, .f32⟩
  | .hbm, ⟨17, _⟩ => ⟨S1x100000, .f32⟩
  | .hbm, ⟨18, _⟩ => ⟨S1024x100000, .f32⟩
  | .hbm, ⟨19, _⟩ => ⟨S1024x100000, .f32⟩
  | .hbm, ⟨20, _⟩ => ⟨S1024x100000, .f32⟩
  | .hbm, ⟨21, _⟩ => ⟨S1024x750, .f32⟩
  | .hbm, ⟨22, _⟩ => ⟨S1024x750, .i32⟩
  | .hbm, ⟨23, _⟩ => ⟨S1024x1, .i32⟩
  | .hbm, ⟨24, _⟩ => ⟨S1024x751, .i32⟩
  | .hbm, ⟨25, _⟩ => ⟨S_, .i32⟩
  | .hbm, ⟨26, _⟩ => ⟨S1024x751, .i32⟩
  | .hbm, ⟨27, _⟩ => ⟨S1024x751, .i1⟩
  | .hbm, ⟨28, _⟩ => ⟨S_, .i32⟩
  | .hbm, ⟨29, _⟩ => ⟨S1024x751, .i32⟩
  | .hbm, ⟨30, _⟩ => ⟨S1024x751, .i32⟩
  | .hbm, ⟨31, _⟩ => ⟨S1024x751, .i32⟩
  | .hbm, ⟨32, _⟩ => ⟨S1024x751x1, .i32⟩
  | .hbm, ⟨33, _⟩ => ⟨S1, .i32⟩
  | .hbm, ⟨34, _⟩ => ⟨S_, .i32⟩
  | .hbm, ⟨35, _⟩ => ⟨S1024x751x1, .i32⟩
  | .hbm, ⟨36, _⟩ => ⟨S1024x751x1, .i1⟩
  | .hbm, ⟨37, _⟩ => ⟨S1x1x1, .i32⟩
  | .hbm, ⟨38, _⟩ => ⟨S1024x751x1, .i32⟩
  | .hbm, ⟨39, _⟩ => ⟨S1024x751x1, .i1⟩
  | .hbm, ⟨40, _⟩ => ⟨S1024x751x1, .i1⟩
  | .hbm, ⟨41, _⟩ => ⟨S_, .i1⟩
  | .hbm, ⟨42, _⟩ => ⟨S1024x751, .i1⟩
  | .hbm, ⟨43, _⟩ => ⟨S1024x751x128, .f32⟩
  | .hbm, ⟨44, _⟩ => ⟨S1024x751x128, .i1⟩
  | .hbm, ⟨45, _⟩ => ⟨S_, .f32⟩
  | .hbm, ⟨46, _⟩ => ⟨S1024x751x128, .f32⟩
  | .hbm, ⟨47, _⟩ => ⟨S1024x751x128, .f32⟩
  | .hbm, ⟨48, _⟩ => ⟨S1024x751, .f32⟩
  | .hbm, ⟨49, _⟩ => ⟨S_, .f32⟩
  | .hbm, ⟨50, _⟩ => ⟨S1024x751, .f32⟩
  | .hbm, ⟨51, _⟩ => ⟨S1024x751, .f32⟩
  | .hbm, ⟨52, _⟩ => ⟨S_, .f32⟩
  | .hbm, ⟨53, _⟩ => ⟨S1024, .f32⟩
  | .hbm, ⟨54, _⟩ => ⟨S_, .f32⟩
  | .hbm, ⟨55, _⟩ => ⟨S1024, .f32⟩
  | .hbm, ⟨56, _⟩ => ⟨S1024, .f32⟩
  | .hbm, ⟨57, _⟩ => ⟨S1024x1, .f32⟩
  | .hbm, ⟨58, _⟩ => ⟨S1024x751, .f32⟩
  | .hbm, ⟨59, _⟩ => ⟨S1024x751, .f32⟩
  | .hbm, ⟨60, _⟩ => ⟨S1024x751, .f32⟩
  | .hbm, ⟨61, _⟩ => ⟨S_, .f32⟩
  | .hbm, ⟨62, _⟩ => ⟨S1024, .f32⟩
  | .hbm, ⟨63, _⟩ => ⟨S1024x1, .f32⟩
  | .hbm, ⟨64, _⟩ => ⟨S1024x751, .f32⟩
  | .hbm, ⟨65, _⟩ => ⟨S1024x751, .f32⟩
  | .hbm, ⟨66, _⟩ => ⟨S1024x751, .i32⟩
  | .hbm, ⟨67, _⟩ => ⟨S_, .f32⟩
  | .hbm, ⟨68, _⟩ => ⟨S_, .i32⟩
  | .hbm, ⟨69, _⟩ => ⟨S1024, .f32⟩
  | .hbm, ⟨70, _⟩ => ⟨S1024, .i32⟩
  | .hbm, ⟨71, _⟩ => ⟨S1024x1, .i32⟩
  | .hbm, ⟨72, _⟩ => ⟨S_, .i32⟩
  | .hbm, ⟨73, _⟩ => ⟨S1024x1, .i32⟩
  | .hbm, ⟨74, _⟩ => ⟨S1024x1, .i1⟩
  | .hbm, ⟨75, _⟩ => ⟨S_, .i32⟩
  | .hbm, ⟨76, _⟩ => ⟨S1024x1, .i32⟩
  | .hbm, ⟨77, _⟩ => ⟨S1024x1, .i32⟩
  | .hbm, ⟨78, _⟩ => ⟨S1024x1, .i32⟩
  | .hbm, ⟨79, _⟩ => ⟨S1024x1x1, .i32⟩
  | .hbm, ⟨80, _⟩ => ⟨S1, .i32⟩
  | .hbm, ⟨81, _⟩ => ⟨S_, .i32⟩
  | .hbm, ⟨82, _⟩ => ⟨S1024x1x1, .i32⟩
  | .hbm, ⟨83, _⟩ => ⟨S1024x1x1, .i1⟩
  | .hbm, ⟨84, _⟩ => ⟨S1x1x1, .i32⟩
  | .hbm, ⟨85, _⟩ => ⟨S1024x1x1, .i32⟩
  | .hbm, ⟨86, _⟩ => ⟨S1024x1x1, .i1⟩
  | .hbm, ⟨87, _⟩ => ⟨S1024x1x1, .i1⟩
  | .hbm, ⟨88, _⟩ => ⟨S_, .i1⟩
  | .hbm, ⟨89, _⟩ => ⟨S1024x1, .i1⟩
  | .hbm, ⟨90, _⟩ => ⟨S1024x1, .i32⟩
  | .hbm, ⟨91, _⟩ => ⟨S_, .i32⟩
  | .hbm, ⟨92, _⟩ => ⟨S1024x1, .i32⟩
  | .hbm, ⟨93, _⟩ => ⟨S1024x1, .i32⟩
  | .hbm, ⟨94, _⟩ => ⟨S1024, .i32⟩
  | .hbm, ⟨95, _⟩ => ⟨S_, .f32⟩
  | .hbm, ⟨96, _⟩ => ⟨S1024x100000, .f32⟩
  | .hbm, ⟨97, _⟩ => ⟨S1024, .i32⟩
  | .hbm, ⟨98, _⟩ => ⟨S1024x1, .i32⟩
  | .hbm, ⟨99, _⟩ => ⟨S_, .i32⟩
  | .hbm, ⟨100, _⟩ => ⟨S1024x1, .i32⟩
  | .hbm, ⟨101, _⟩ => ⟨S1024x1, .i1⟩
  | .hbm, ⟨102, _⟩ => ⟨S_, .i32⟩
  | .hbm, ⟨103, _⟩ => ⟨S1024x1, .i32⟩
  | .hbm, ⟨104, _⟩ => ⟨S1024x1, .i32⟩
  | .hbm, ⟨105, _⟩ => ⟨S1024x1, .i32⟩
  | .hbm, ⟨106, _⟩ => ⟨S_, .i32⟩
  | .hbm, ⟨107, _⟩ => ⟨S1024x751, .i32⟩
  | .hbm, ⟨108, _⟩ => ⟨S1024x751, .i1⟩
  | .hbm, ⟨109, _⟩ => ⟨S_, .i32⟩
  | .hbm, ⟨110, _⟩ => ⟨S1024x751, .i32⟩
  | .hbm, ⟨111, _⟩ => ⟨S1024x751, .i32⟩
  | .hbm, ⟨112, _⟩ => ⟨S1024x751, .i32⟩
  | .hbm, ⟨113, _⟩ => ⟨S1024x751, .i32⟩
  | .hbm, ⟨114, _⟩ => ⟨S1024x751x1, .i32⟩
  | .hbm, ⟨115, _⟩ => ⟨S1024x751x1, .i32⟩
  | .hbm, ⟨116, _⟩ => ⟨S1024x751x2, .i32⟩
  | .hbm, ⟨117, _⟩ => ⟨S1024x100000, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_values : Ref sig .tc := ⟨.hbm, 21, rfl⟩
abbrev main_indices : Ref sig .tc := ⟨.hbm, 22, rfl⟩
abbrev main_v15 : Ref sig .tc := ⟨.hbm, 23, rfl⟩
abbrev main_v16 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v17 : Ref sig .tc := ⟨.hbm, 47, rfl⟩
abbrev main_v18 : Ref sig .tc := ⟨.hbm, 48, rfl⟩
abbrev main_cst_2 : Ref sig .tc := ⟨.hbm, 49, rfl⟩
abbrev main_v19 : Ref sig .tc := ⟨.hbm, 50, rfl⟩
abbrev main_v20 : Ref sig .tc := ⟨.hbm, 51, rfl⟩
abbrev main_cst_3 : Ref sig .tc := ⟨.hbm, 52, rfl⟩
abbrev main_v21 : Ref sig .tc := ⟨.hbm, 53, rfl⟩
abbrev main_cst_4 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_5 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_call1_v0 : Ref sig .tc := ⟨.hbm, 66, rfl⟩
abbrev main_call1_cst : Ref sig .tc := ⟨.hbm, 67, rfl⟩
abbrev main_call1_c : Ref sig .tc := ⟨.hbm, 68, rfl⟩
abbrev main_call1_v1_0 : Ref sig .tc := ⟨.hbm, 69, rfl⟩
abbrev main_v32 : Ref sig .tc := ⟨.hbm, 70, rfl⟩
abbrev main_v33 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_c_4 : Ref sig .tc := ⟨.hbm, 91, rfl⟩
abbrev main_call2_v14 : Ref sig .tc := ⟨.hbm, 92, rfl⟩
abbrev main_v34 : Ref sig .tc := ⟨.hbm, 93, rfl⟩
abbrev main_v35 : Ref sig .tc := ⟨.hbm, 94, rfl⟩
abbrev main_cst_6 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_c : Ref sig .tc := ⟨.hbm, 99, rfl⟩
abbrev main_v39 : Ref sig .tc := ⟨.hbm, 100, rfl⟩
abbrev main_v40 : Ref sig .tc := ⟨.hbm, 101, rfl⟩
abbrev main_c_7 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_c_8 : Ref sig .tc := ⟨.hbm, 106, rfl⟩
abbrev main_v44 : Ref sig .tc := ⟨.hbm, 107, rfl⟩
abbrev main_v45 : Ref sig .tc := ⟨.hbm, 108, rfl⟩
abbrev main_c_9 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩

abbrev nD : Nat := 1
abbrev τ : Topo := Topo.v7x

variable {F : FTy → Type} [FloatOps F]
-- ==== Proof.KernelBody.lean ====
/- The body of the scoring kernel, as printed: what one call does to its four staging buffers. -/
module

public import proofs.«01_k».proof.Proof.Gen.Kernel.Skeleton
public import proofs.«01_k».proof.Proof.Gen.Kernel.Frame

@[expose] public section

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A box at offsets zero of the array's own extents reads the whole array. -/
theorem ld_whole {s : Shape} {e : EltTy} (X : s.Idx → Elt F e) (off : Fin s.rank → Nat) (h0 : off = fun _ => 0)
    (hi : ∀ a, off a + s.size a ≤ s.size a) : View.ld X (Rect.unit (s := s) off s.size hi) = X := by
  subst h0
  funext j
  refine congrArg X (funext fun a => Fin.ext ?_)
  simp [Rect.unit, Rect.emb]

/-- One unmasked write of the whole array leaves its payload. -/
theorem canon_whole {s : Shape} {e : EltTy} (X : s.Idx → Elt F e) (off : Fin s.rank → Nat) (h0 : off = fun _ => 0)
    (hi : ∀ a, off a + s.size a ≤ s.size a) :
    View.canon [(⟨Rect.unit (s := s) off s.size hi, X⟩ : View.Piece (Elt F) s e)] = X := by
  subst h0
  funext j
  have he : (Rect.unit (s := s) (fun _ => 0) s.size hi).emb j = j := funext fun a => Fin.ext (by simp [Rect.unit, Rect.emb])
  conv_lhs => rw [← he]
  exact View.canon_cons_emb _ _ _ _

/-- The two zero offsets of every access of the body. -/
theorem off_zero : (![0, 0] : Fin 2 → Nat) = fun _ => 0 := funext fun a => by fin_cases a <;> rfl

set_option maxHeartbeats 1000000 in
/-- One call of the body: the query block and the table block stay, the first result's buffer ends at the block product
    and the second's at the block scores. -/
theorem body_run (c : Dev nD) (E : Set ℕ) (i : grid0.Coords)
    (a2 : Memref sig .tc .vmem S256x128 .f32) (h2 : a2.IsWhole) (a3 : Memref sig .tc .vmem S2048x128 .f32) (h3 : a3.IsWhole)
    (a4 : Memref sig .tc .vmem S256x2048 .f32) (h4 : a4.IsWhole) (a5 : Memref sig .tc .vmem S256x2048 .f32) (h5 : a5.IsWhole)
    (X0 : S256x128.Idx → Elt F .f32) (X1 : S2048x128.Idx → Elt F .f32) (K : PUnit → sProp 𝕄) :
    iprop(owns (c : Thread nD τ) a2 fullShare X0 ∗ owns (c : Thread nD τ) a3 fullShare X1
        ∗ (∃ d, owns (c : Thread nD τ) a4 fullShare d) ∗ (∃ d, owns (c : Thread nD τ) a5 fullShare d)
        ∗ (iprop(owns (c : Thread nD τ) a2 fullShare X0 ∗ owns (c : Thread nD τ) a3 fullShare X1
              ∗ owns (c : Thread nD τ) a4 fullShare (k0_pay1 X0 X1) ∗ owns (c : Thread nD τ) a5 fullShare (k0_pay2 X0 X1)) -∗ K ⟨⟩))
      ⊢ wp frame (wpE (defs₀ (F := F)) Variants.none c none) E (cc0__mm_body i a2 h2 a3 h3 a4 h4 a5 h5) K := by
  simp only [cc0__mm_body_eq_skeleton]; unfold cc0__mm_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => View.cover_of_tiled _ S256x2048.size (by rfl) y)).trans ?_
    rw [canon_whole _ _ off_zero]
    simp only [View.readAt_eq_ld]
    rw [ld_whole _ _ off_zero, ld_whole _ _ off_zero]
  · iexists _; isplitr
    swap; · iexact H3
    ipureintro
    refine (View.read_writes_eq_canon _ _ _ (fun y => View.cover_of_tiled _ S256x2048.size (by rfl) y)).trans ?_
    rw [canon_whole _ _ off_zero]
    simp only [View.readAt_eq_ld]
    rw [ld_whole _ _ off_zero, ld_whole _ _ off_zero]

end Cert.KernelProof

end
-- ==== Proof.KernelFrame.lean ====
/- The kernel as printed runs to the end, leaves its arguments as they were and its counters at zero. The two score
   arrays' contents are not named here: at the edge of the table the body multiplies rows that nothing names. -/
module

public import proofs.«01_k».proof.Proof.KernelBody

@[expose] public section

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents the frame does not follow: the two results'. -/
def fgt : Fin cfg0.W → Bool
  | ⟨0, _⟩ => false
  | ⟨1, _⟩ => false
  | ⟨2, _⟩ => true
  | ⟨3, _⟩ => true

/-- The frame's proof data: each input buffer at its block (the table's filled out past the edge), the results' at
    anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0#32) (iblk m c 1 t)
    | ⟨2, _⟩ => fun _ => Scalar.ofBits .f32 0#32
    | ⟨3, _⟩ => fun _ => Scalar.ofBits .f32 0#32
  Φ _ := Pipeline.ΦA spec0 c
  q _ := fullShare
  owed _ := 0

/-- The data's arrays are the arrays as the region finds them. -/
theorem A_eq (c : Dev nD) (w : Fin cfg0.W) : (dats m 0 c).A w = V m c (Pipeline.arrRef spec0 w) := by
  dsimp only [dats]

/-- The queries' buffer holds its block at every point. -/
theorem before_q (c : Dev nD) (t : Fin cfg0.N) (d) : (dats m 0 c).before 0 t d = iblk m c 0 t :=
  before0_0_of m (dats m 0 c) (A_eq m c 0) (fun _ => by dsimp only [dats]) t d

/-- The table's buffer holds its block inside the table and anything past the table's end. -/
theorem before_m (c : Dev nD) (t : Fin cfg0.N) (d) :
    (dats m 0 c).before 1 t d = win0_1.fill (grid0.coords t) d (iblk m c 1 t) := by
  unfold Dat.before; rw [if_pos (fetch0_1 t)]; rfl

/-- One point of the grid keeps the frame's invariant. -/
theorem body_ok (c : Dev nD) : BodyObligationLoose (dats m 0 c) (defs₀ (F := F)) Variants.none () Set.univ fgt := fun t => by
  rw [bigSep_W0, bigSep_W0]
  simp only [show fgt 0 = false from rfl, show fgt 1 = false from rfl, show fgt 2 = true from rfl, show fgt 3 = true from rfl]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_q m c t d0, before_m m c t d1]
  iapply (body_run (F := F) c Set.univ (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3))
    (iblk m c 0 t) (win0_1.fill (grid0.coords t) d1 (iblk m c 1 t)) _)
  isplitl [H0]; · iexact H0
  isplitl [H1]; · iexact H1
  isplitl [H2]; · iexists d2; iexact H2
  isplitl [H3]; · iexists d3; iexact H3
  iintro ⟨H0, H1, H2, H3⟩
  isplitl [HΦ]; · iexact HΦ
  isplitl [Ho]; · iexact Ho
  isplitl [H0]; · iexact H0
  isplitl [H1]
  · iexists d1
    change _ ⊢ owns (c : Thread nD τ) (win0_1.stage (cfg0.slots t 1)) fullShare (win0_1.fill (grid0.coords t) d1
      (win0_1.cut (grid0.coords t) (win0_1.fill (grid0.coords t) (fun _ => Scalar.ofBits .f32 0#32) (iblk m c 1 t))))
    rw [win0_1.cut_fill]; exact .rfl
  isplitl [H2]; · iexists _; iexact H2
  · iexists _; iexact H3

/-- Every buffer the lines after the kernel write. -/
def tailW : Finset (Ref sig .tc) :=
  (hostOps1_W ++ hostOps1_1_W ++ hostOps1_2_W ++ hostOps1_3_W ++ hostOps1_4_W ++ hostOps1_5_W ++ hostOps1_6_W).toFinset

/-- A write within a list of buffers lies in `tailW` when the list does. -/
theorem mem_tailW {W : List (Ref sig .tc)} {ws : Finset (DevRef τ sig)} (hW : ws ⊆ (W.map (Proc.devRef (τ := τ) .tc)).toFinset)
    (hsub : ∀ b ∈ W, b ∈ tailW) (b : Ref sig .tc) (hb : Proc.devRef .tc b ∈ ws) : b ∈ tailW := by
  obtain ⟨y, hy, he⟩ := List.mem_map.mp (List.mem_toFinset.mp (hW hb))
  exact hsub b (Proc.devRef_injective _ he ▸ hy)

/-- The lines after the kernel write within `tailW`. -/
theorem tail_writes : ∀ ops ∈ ([hostOps1, hostOps1_1, hostOps1_2, hostOps1_3, hostOps1_4, hostOps1_5, hostOps1_6] : List (List (HloOp τ sig (Elt F)))),
    ∀ op ∈ ops, ∀ b : Ref sig .tc, Proc.devRef .tc b ∈ op.writes → b ∈ tailW := by
  intro ops hops op hop
  simp only [List.mem_cons, List.mem_nil_iff, or_false] at hops
  rcases hops with rfl | rfl | rfl | rfl | rfl | rfl | rfl
  · exact mem_tailW ((List.forall_iff_forall_mem.mp hostOps1_writes) op hop) (by decide +kernel)
  · exact mem_tailW ((List.forall_iff_forall_mem.mp hostOps1_1_writes) op hop) (by decide +kernel)
  · exact mem_tailW ((List.forall_iff_forall_mem.mp hostOps1_2_writes) op hop) (by decide +kernel)
  · exact mem_tailW ((List.forall_iff_forall_mem.mp hostOps1_3_writes) op hop) (by decide +kernel)
  · exact mem_tailW ((List.forall_iff_forall_mem.mp hostOps1_4_writes) op hop) (by decide +kernel)
  · exact mem_tailW ((List.forall_iff_forall_mem.mp hostOps1_5_writes) op hop) (by decide +kernel)
  · exact mem_tailW ((List.forall_iff_forall_mem.mp hostOps1_6_writes) op hop) (by decide +kernel)

set_option maxHeartbeats 1000000 in
/-- The run of the printed kernel: arguments kept, counters at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around_T_forget cfgs (dats m) 0 launch0 defs₀ Variants.none fgt tailW m ρ main
    (body_ok m) (fun c w => by unfold Dat.share; split <;> rfl) (fun _ _ => rfl) (V0 m) _ sfx_sub sfx_fresh sfx_keeps tail_writes
    (hmain m Variants.none) (A_eq m) (fun _ _ => rfl) _
    (fun r h => ⟨fun c => ⟨(RDat.FramePostR.arr_in h.1 c 0 rfl).trans (V_main_arg0 m c),
      (RDat.FramePostR.arr_in h.1 c 1 rfl).trans (V_main_arg1 m c),
      (((h.1 c).2 main_arg2 (Finset.mem_sdiff.mpr ⟨Pipeline.mem_restRefs_of main_arg2 (by decide) (by decide), by decide +kernel⟩))).trans
        (V_main_arg2 m c)⟩, h.2⟩)

end Cert.KernelProof

end
-- ==== Proof.IdealBody.lean ====
/- The body of the scoring kernel, over the extended reals or any other values: what one call does to its four staging buffers. -/
module

public import proofs.«01_k».proof.Proof.KernelBody
public import proofs.«01_k».proof.Proof.Gen.KernelIdeal.Skeleton
public import proofs.«01_k».proof.Proof.Gen.KernelIdeal.Frame

@[expose] public section

noncomputable section

namespace Cert.IdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelProof (ld_whole canon_whole off_zero)

variable {F : FTy → Type} [FloatOps F]

local notation "𝕄" => MT nD τ sig Unit (Elt F) ℕ (UR sig nD τ) ℕ

set_option maxHeartbeats 1000000 in
/-- One call of the body: the query block and the table block stay, the first result's buffer ends at the block product
    and the second's at the block scores. -/
theorem body_run (c : Dev nD) (E : Set ℕ) (i : grid0.Coords)
    (a2 : Memref sig .tc .vmem S256x128 .f32) (h2 : a2.IsWhole) (a3 : Memref sig .tc .vmem S2048x128 .f32) (h3 : a3.IsWhole)
    (a4 : Memref sig .tc .vmem S256x2048 .f32) (h4 : a4.IsWhole) (a5 : Memref sig .tc .vmem S256x2048 .f32) (h5 : a5.IsWhole)
    (X0 : S256x128.Idx → Elt F .f32) (X1 : S2048x128.Idx → Elt F .f32) (K : PUnit → sProp 𝕄) :
    iprop(owns (c : Thread nD τ) a2 fullShare X0 ∗ owns (c : Thread nD τ) a3 fullShare X1
        ∗ (∃ d, owns (c : Thread nD τ) a4 fullShare d) ∗ (∃ d, owns (c : Thread nD τ) a5 fullShare d)
        ∗ (iprop(owns (c : Thread nD τ) a2 fullShare X0 ∗ owns (c : Thread nD τ) a3 fullShare X1
              ∗ owns (c : Thread nD τ) a4 fullShare (k0_pay1 X0 X1) ∗ owns (c : Thread nD τ) a5 fullShare (k0_pay2 X0 X1)) -∗ K ⟨⟩))
      ⊢ wp frame (wpE (defs₀ (F := F)) Variants.none c none) E (cc0__mm_body i a2 h2 a3 h3 a4 h4 a5 h5) K := by
  simp only [cc0__mm_body_eq_skeleton]; unfold cc0__mm_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (fun y => View.cover_of_tiled _ S256x2048.size (by rfl) y)).trans ?_
    rw [canon_whole _ _ off_zero]
    simp only [View.readAt_eq_ld]
    rw [ld_whole _ _ off_zero, ld_whole _ _ off_zero]
  · iexists _; isplitr
    swap; · iexact H3
    ipureintro
    refine (View.read_writes_eq_canon _ _ _ (fun y => View.cover_of_tiled _ S256x2048.size (by rfl) y)).trans ?_
    rw [canon_whole _ _ off_zero]
    simp only [View.readAt_eq_ld]
    rw [ld_whole _ _ off_zero, ld_whole _ _ off_zero]

end Cert.IdealProof

end
-- ==== Proof.IdealValue.lean ====
/- The scoring kernel over the extended reals: what its two result arrays hold once every block is written back. -/
module

public import proofs.«01_k».proof.Proof.IdealBody
public import Idealize.ShloMosaic.Lib.Pointwise
public import Idealize.ShloMosaic.Lib.Pipeline.ValueKit.Geometry

@[expose] public section

noncomputable section

namespace Cert.IdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

/-- The inner product of each query with each row of the table. -/
def ipAll (q : S1024x128.Idx → Elt Ideal .f32) (M : S100000x128.Idx → Elt Ideal .f32) : S1024x100000.Idx → Elt Ideal .f32 :=
  fun i => ∑ d : Fin 128, ((q (ix2 (i 0) d) : EReal) * (M (ix2 (i 1) d) : EReal))

/-- The kernel's scores: twice the inner product less the row's squared length. -/
def scoreAll (q : S1024x128.Idx → Elt Ideal .f32) (M : S100000x128.Idx → Elt Ideal .f32) : S1024x100000.Idx → Elt Ideal .f32 :=
  fun i => (Ideal.ofBits .f32 0x40000000#32 : EReal) * ipAll q M i - ∑ d : Fin 128, ((M (ix2 (i 1) d) : EReal) * (M (ix2 (i 1) d) : EReal))

/-- An entry of the block product. -/
theorem pay1_at (X0 : S256x128.Idx → Elt Ideal .f32) (X1 : S2048x128.Idx → Elt Ideal .f32) (r : Fin 256) (k : Fin 2048) :
    k0_pay1 X0 X1 (ix2 r k) = ∑ d : Fin 128, ((X0 (ix2 r d) : EReal) * (X1 (ix2 k d) : EReal)) := by
  pointwise [k0_pay1]

/-- An entry of the block scores. -/
theorem pay2_at (X0 : S256x128.Idx → Elt Ideal .f32) (X1 : S2048x128.Idx → Elt Ideal .f32) (r : Fin 256) (k : Fin 2048) :
    k0_pay2 X0 X1 (ix2 r k) = (Ideal.ofBits .f32 0x40000000#32 : EReal) * (∑ d : Fin 128, ((X0 (ix2 r d) : EReal) * (X1 (ix2 k d) : EReal)))
      - ∑ d : Fin 128, ((X1 (ix2 k d) : EReal) * (X1 (ix2 k d) : EReal)) := by
  pointwise [k0_pay2, k0_pay1]

/-- The queries' block lies by the first grid coordinate, -/
theorem index_q : ∀ t : Fin cfg0.N, win0_0.index t = ![win0_3.index t 0, 0] := by decide +kernel

/-- the table's by the second, -/
theorem index_m : ∀ t : Fin cfg0.N, win0_1.index t = ![win0_3.index t 1, 0] := by decide +kernel

/-- and the inner products' where the scores' does, by both. -/
theorem index_ip : ∀ t : Fin cfg0.N, win0_2.index t = ![win0_3.index t 0, win0_3.index t 1] := by decide +kernel

/-- How much of a block is inside its array: all of the query block, as many table rows as result columns. -/
theorem inside : ∀ t : Fin cfg0.N, win0_1.xsize (grid0.coords t) 0 = win0_3.xsize (grid0.coords t) 1
    ∧ win0_1.xsize (grid0.coords t) 1 = 128 ∧ win0_2.xsize (grid0.coords t) 1 = win0_3.xsize (grid0.coords t) 1
    ∧ win0_2.xsize (grid0.coords t) 0 = 256 ∧ win0_3.xsize (grid0.coords t) 0 = 256
    ∧ win0_3.index t 0 < 4 ∧ win0_3.index t 1 * 2048 + win0_3.xsize (grid0.coords t) 1 ≤ 100000 := by decide +kernel

variable (m : (ℓ : Loc nD τ sig) → Buf (Elt Ideal) ℓ) (ρ : Dev nD → PrngReg)

/-- A row of the query block is a row of the queries. -/
theorem q_row (c : Dev nD) (t : Fin cfg0.N) (r : Fin 256) (e : Fin 128) (R : Fin 1024) (hR : R.val = win0_3.index t 0 * 256 + r.val) :
    iblk m c 0 t (ix2 r e) = m ((c : Thread nD τ).loc main_arg0) (ix2 R e) := by
  have h := index_q t
  blk_simp [iblk, h]
  refine congrArg (m ((c : Thread nD τ).loc main_arg0)) (funext fun a => Fin.ext ?_)
  match a with
  | ⟨0, _⟩ =>
    refine (win0_0.rect_emb_val t _ 0).trans ?_
    rw [h]; exact hR.symm
  | ⟨1, _⟩ =>
    refine (win0_0.rect_emb_val t _ 1).trans ?_
    rw [h]; exact Nat.zero_add _

/-- A row of the table block that lies inside the table is a row of the table, whatever fills the rest. -/
theorem m_row (c : Dev nD) (t : Fin cfg0.N) (d : S2048x128.Idx → Elt Ideal .f32) (k : Fin 2048) (e : Fin 128)
    (hk : k.val < win0_3.xsize (grid0.coords t) 1) (J : Fin 100000) (hJ : J.val = win0_3.index t 1 * 2048 + k.val) :
    win0_1.fill (grid0.coords t) d (iblk m c 1 t) (ix2 k e) = m ((c : Thread nD τ).loc main_arg1) (ix2 J e) := by
  have hin := inside t
  have hmv : win0_1.moved (grid0.coords t) (ix2 k e) = true := (win0_1.moved_iff _ _).mpr fun a => by
    match a with
    | ⟨0, _⟩ => exact hk.trans_eq hin.1.symm
    | ⟨1, _⟩ => exact e.isLt.trans_eq hin.2.1.symm
  unfold Window.fill
  rw [dif_pos hmv]
  have h := index_m t
  blk_simp [iblk, h]
  refine congrArg (m ((c : Thread nD τ).loc main_arg1)) (funext fun a => Fin.ext ?_)
  match a with
  | ⟨0, _⟩ =>
    refine (win0_1.rect_emb_val t _ 0).trans ?_
    rw [h]; exact hJ.symm
  | ⟨1, _⟩ =>
    refine (win0_1.rect_emb_val t _ 1).trans ?_
    rw [h]; exact Nat.zero_add _

/-- The table's block filled out past the table's end. -/
abbrev mblk (c : Dev nD) (t : Fin cfg0.N) : S2048x128.Idx → Elt Ideal .f32 :=
  win0_1.fill (grid0.coords t) (fun _ => FloatOps.ofBits (F := Ideal) .f32 0#32) (iblk m c 1 t)

/-- A column of the block product inside the table is the array's, whatever fills the table block's rest. -/
theorem pay1_in (c : Dev nD) (t : Fin cfg0.N) (d : S2048x128.Idx → Elt Ideal .f32) (r : Fin 256) (k : Fin 2048)
    (hk : k.val < win0_3.xsize (grid0.coords t) 1) (R : Fin 1024) (hR : R.val = win0_3.index t 0 * 256 + r.val)
    (J : Fin 100000) (hJ : J.val = win0_3.index t 1 * 2048 + k.val) :
    k0_pay1 (iblk m c 0 t) (win0_1.fill (grid0.coords t) d (iblk m c 1 t)) (ix2 r k)
      = ipAll (m ((c : Thread nD τ).loc main_arg0)) (m ((c : Thread nD τ).loc main_arg1)) (ix2 R J) := by
  rw [pay1_at]
  refine Finset.sum_congr rfl fun e _ => ?_
  rw [q_row m c t r e R hR, m_row m c t d k e hk J hJ]
  rfl

/-- The same of the block scores. -/
theorem pay2_in (c : Dev nD) (t : Fin cfg0.N) (d : S2048x128.Idx → Elt Ideal .f32) (r : Fin 256) (k : Fin 2048)
    (hk : k.val < win0_3.xsize (grid0.coords t) 1) (R : Fin 1024) (hR : R.val = win0_3.index t 0 * 256 + r.val)
    (J : Fin 100000) (hJ : J.val = win0_3.index t 1 * 2048 + k.val) :
    k0_pay2 (iblk m c 0 t) (win0_1.fill (grid0.coords t) d (iblk m c 1 t)) (ix2 r k)
      = scoreAll (m ((c : Thread nD τ).loc main_arg0)) (m ((c : Thread nD τ).loc main_arg1)) (ix2 R J) := by
  rw [pay2_at]
  simp only [q_row m c t r _ R hR, m_row m c t d k _ hk J hJ]
  rfl

/-- The place in the whole array of an entry of a result block. -/
theorem place (t : Fin cfg0.N) (r : Fin 256) (k : Fin 2048) (hk : k.val < win0_3.xsize (grid0.coords t) 1) :
    ∃ (R : Fin 1024) (J : Fin 100000), R.val = win0_3.index t 0 * 256 + r.val ∧ J.val = win0_3.index t 1 * 2048 + k.val := by
  have hin := inside t
  exact ⟨⟨win0_3.index t 0 * 256 + r.val, by omega⟩, ⟨win0_3.index t 1 * 2048 + k.val, by omega⟩, rfl, rfl⟩

/-- An index of a result block, by its coordinates. -/
theorem split_ip (t : Fin cfg0.N) (y : (win0_2.xblock (grid0.coords t)).Idx) :
    ∃ (r : Fin 256) (k : Fin 2048), k.val < win0_3.xsize (grid0.coords t) 1 ∧ win0_2.xinj (grid0.coords t) y = ix2 r k
      ∧ (y 0).val = r.val ∧ (y 1).val = k.val := by
  have hin := inside t
  refine ⟨win0_2.xinj (grid0.coords t) y 0, win0_2.xinj (grid0.coords t) y 1, ?_, ?_, rfl, rfl⟩
  · exact (y 1).isLt.trans_eq hin.2.2.1
  · exact eq_ix2 _

/-- The same for the scores' block. -/
theorem split_score (t : Fin cfg0.N) (y : (win0_3.xblock (grid0.coords t)).Idx) :
    ∃ (r : Fin 256) (k : Fin 2048), k.val < win0_3.xsize (grid0.coords t) 1 ∧ win0_3.xinj (grid0.coords t) y = ix2 r k
      ∧ (y 0).val = r.val ∧ (y 1).val = k.val :=
  ⟨win0_3.xinj (grid0.coords t) y 0, win0_3.xinj (grid0.coords t) y 1, (y 1).isLt, eq_ix2 _, rfl, rfl⟩

/-- The part of a result block that is written back does not depend on what fills the table block. -/
theorem cut_ip (c : Dev nD) (t : Fin cfg0.N) (d d' : S2048x128.Idx → Elt Ideal .f32) :
    win0_2.cut (α := Elt Ideal win0_2.elt) (grid0.coords t) (k0_pay1 (iblk m c 0 t) (win0_1.fill (grid0.coords t) d (iblk m c 1 t)))
      = win0_2.cut (α := Elt Ideal win0_2.elt) (grid0.coords t) (k0_pay1 (iblk m c 0 t) (win0_1.fill (grid0.coords t) d' (iblk m c 1 t))) := by
  funext y
  obtain ⟨r, k, hk, hy, -, -⟩ := split_ip t y
  obtain ⟨R, J, hR, hJ⟩ := place t r k hk
  unfold Window.cut
  rw [hy, pay1_in m c t d r k hk R hR J hJ, pay1_in m c t d' r k hk R hR J hJ]

/-- Nor does the part of the scores' block that is written back. -/
theorem cut_score (c : Dev nD) (t : Fin cfg0.N) (d d' : S2048x128.Idx → Elt Ideal .f32) :
    win0_3.cut (α := Elt Ideal win0_3.elt) (grid0.coords t) (k0_pay2 (iblk m c 0 t) (win0_1.fill (grid0.coords t) d (iblk m c 1 t)))
      = win0_3.cut (α := Elt Ideal win0_3.elt) (grid0.coords t) (k0_pay2 (iblk m c 0 t) (win0_1.fill (grid0.coords t) d' (iblk m c 1 t))) := by
  funext y
  obtain ⟨r, k, hk, hy, -, -⟩ := split_score t y
  obtain ⟨R, J, hR, hJ⟩ := place t r k hk
  unfold Window.cut
  rw [hy, pay2_in m c t d r k hk R hR J hJ, pay2_in m c t d' r k hk R hR J hJ]

/-- The proof data: each input buffer at its block, each result's at what the body computes from them. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => mblk m c t
    | ⟨2, _⟩ => k0_pay1 (iblk m c 0 t) (mblk m c t)
    | ⟨3, _⟩ => k0_pay2 (iblk m c 0 t) (mblk m c t)
  Φ _ := Pipeline.ΦA spec0 c
  q _ := fullShare
  owed _ := 0

/-- The data's arrays are the arrays as the region finds them. -/
theorem A_eq (c : Dev nD) (w : Fin cfg0.W) : (dats m 0 c).A w = V m c (Pipeline.arrRef spec0 w) := by
  dsimp only [dats]

/-- The queries' buffer holds its block at every point. -/
theorem before_q (c : Dev nD) (t : Fin cfg0.N) (d) : (dats m 0 c).before 0 t d = iblk m c 0 t :=
  before0_0_of m (dats m 0 c) (A_eq m c 0) (fun _ => by dsimp only [dats]) t d

/-- The table's buffer holds its block inside the table and anything past the table's end. -/
theorem before_m (c : Dev nD) (t : Fin cfg0.N) (d) :
    (dats m 0 c).before 1 t d = win0_1.fill (grid0.coords t) d (iblk m c 1 t) := by
  unfold Dat.before; rw [if_pos (fetch0_1 t)]; rfl

/-- One point of the grid leaves the two result blocks, named on their part inside the arrays. -/
theorem body_ok (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_q m c t d0, before_m m c t d1]
  iapply (body_run (F := Ideal) c Set.univ (grid0.coords t) _ (hstage0_0 ((cfg0.slots t 0).cast nbuf0_0)) _ (hstage0_1 ((cfg0.slots t 1).cast nbuf0_1))
    _ (hstage0_2 ((cfg0.slots t 2).cast nbuf0_2)) _ (hstage0_3 ((cfg0.slots t 3).cast nbuf0_3))
    (iblk m c 0 t) (win0_1.fill (grid0.coords t) d1 (iblk m c 1 t)) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    change _ ⊢ owns (c : Thread nD τ) (win0_1.stage (cfg0.slots t 1)) fullShare (win0_1.fill (grid0.coords t) d1
      (win0_1.cut (grid0.coords t) (mblk m c t)))
    rw [win0_1.cut_fill]; exact .rfl
  isplitl [H2]
  · iexists (k0_pay1 (iblk m c 0 t) (win0_1.fill (grid0.coords t) d1 (iblk m c 1 t)))
    change _ ⊢ owns (c : Thread nD τ) (win0_2.stage (cfg0.slots t 2)) fullShare (win0_2.fill (α := Elt Ideal win0_2.elt) (grid0.coords t)
      (k0_pay1 (iblk m c 0 t) (win0_1.fill (grid0.coords t) d1 (iblk m c 1 t)) : S256x2048.Idx → Elt Ideal .f32)
      (win0_2.cut (α := Elt Ideal win0_2.elt) (grid0.coords t) (k0_pay1 (iblk m c 0 t) (mblk m c t) : S256x2048.Idx → Elt Ideal .f32)))
    rw [← cut_ip m c t d1 _, win0_2.fill_cut]; exact .rfl
  · iexists (k0_pay2 (iblk m c 0 t) (win0_1.fill (grid0.coords t) d1 (iblk m c 1 t)))
    change _ ⊢ owns (c : Thread nD τ) (win0_3.stage (cfg0.slots t 3)) fullShare (win0_3.fill (α := Elt Ideal win0_3.elt) (grid0.coords t)
      (k0_pay2 (iblk m c 0 t) (win0_1.fill (grid0.coords t) d1 (iblk m c 1 t)) : S256x2048.Idx → Elt Ideal .f32)
      (win0_3.cut (α := Elt Ideal win0_3.elt) (grid0.coords t) (k0_pay2 (iblk m c 0 t) (mblk m c t) : S256x2048.Idx → Elt Ideal .f32)))
    rw [← cut_score m c t d1 _, win0_3.fill_cut]; exact .rfl

/-- What the data says the body leaves in the inner products' buffer, -/
theorem after_ip (c : Dev nD) (t : Fin cfg0.N) : (dats m 0 c).after 2 t = k0_pay1 (iblk m c 0 t) (mblk m c t) := by
  dsimp only [dats]

/-- and in the scores' buffer. -/
theorem after_score (c : Dev nD) (t : Fin cfg0.N) : (dats m 0 c).after 3 t = k0_pay2 (iblk m c 0 t) (mblk m c t) := by
  dsimp only [dats]

/-- The inner products' array when every block is written back. -/
theorem arr_ip (c : Dev nD) : (dats m 0 c).arrAt 2 cfg0.N
    = ipAll (m ((c : Thread nD τ).loc main_arg0)) (m ((c : Thread nD τ).loc main_arg1)) := by
  refine (dats m 0 c).arrAt_eq_of_covers 2 _ (by decide +kernel) fun t hf y => ?_
  obtain ⟨r, k, hk, hy, h0, h1⟩ := split_ip t y
  obtain ⟨R, J, hR, hJ⟩ := place t r k hk
  have h := index_ip t
  have he : ((cfg0.win 2).blk t).view.emb y = (ix2 R J : S1024x100000.Idx) := funext fun a => Fin.ext (by
    match a with
    | ⟨0, _⟩ => refine (win0_2.rect_emb_val t y 0).trans ?_; rw [h]; rw [h0]; exact hR.symm
    | ⟨1, _⟩ => refine (win0_2.rect_emb_val t y 1).trans ?_; rw [h]; rw [h1]; exact hJ.symm)
  refine Eq.trans ?_ (congrArg (ipAll (m ((c : Thread nD τ).loc main_arg0)) (m ((c : Thread nD τ).loc main_arg1))) he).symm
  rw [← pay1_in m c t (fun _ => FloatOps.ofBits (F := Ideal) .f32 0#32) r k hk R hR J hJ, ← hy]
  exact (cast_eq _ _).trans (congrFun (after_ip m c t) _)

/-- The scores' array when every block is written back. -/
theorem arr_score (c : Dev nD) : (dats m 0 c).arrAt 3 cfg0.N
    = scoreAll (m ((c : Thread nD τ).loc main_arg0)) (m ((c : Thread nD τ).loc main_arg1)) := by
  refine (dats m 0 c).arrAt_eq_of_covers 3 _ (by decide +kernel) fun t hf y => ?_
  obtain ⟨r, k, hk, hy, h0, h1⟩ := split_score t y
  obtain ⟨R, J, hR, hJ⟩ := place t r k hk
  have he : ((cfg0.win 3).blk t).view.emb y = (ix2 R J : S1024x100000.Idx) := funext fun a => Fin.ext (by
    match a with
    | ⟨0, _⟩ => refine (win0_3.rect_emb_val t y 0).trans ?_; rw [h0]; exact hR.symm
    | ⟨1, _⟩ => refine (win0_3.rect_emb_val t y 1).trans ?_; rw [h1]; exact hJ.symm)
  refine Eq.trans ?_ (congrArg (scoreAll (m ((c : Thread nD τ).loc main_arg0)) (m ((c : Thread nD τ).loc main_arg1))) he).symm
  rw [← pay2_in m c t (fun _ => FloatOps.ofBits (F := Ideal) .f32 0#32) r k hk R hR J hJ, ← hy]
  exact (cast_eq _ _).trans (congrFun (after_score m c t) _)

end Cert.IdealProof

end
-- ==== Proof.Lines.lean ====
/- The lines after the scores, as functions: which rows are drawn, what their inner products are, the softmax over
   them, its largest entry, and the write of the probabilities into the full row. The kernel and the reference run
   the same lines; the two programs' own differences are the scores and how the inner products are fetched. -/
module

public import proofs.«01_k».proof.Proof.Gen.KernelIdeal
public import proofs.«01_k».proof.Proof.Gen.ReferenceIdeal
public import Idealize.ShloMosaic.Lib.StableHlo.Run

@[expose] public section

noncomputable section

namespace Cert.Lines

open Cert.KernelIdeal Cert.KernelIdeal.Gen
open Idealize.ShloMosaic

variable {F : FTy → Type} [FloatOps F]

/-- The rows drawn for each query: those of the 750 largest scores, then the query's real row. -/
def drawn (s : S1024x100000.Idx → Elt F .f32) (real : S1024.Idx → Elt F .i32) : S1024x751.Idx → Elt F .i32 :=
  concatenate S1024x751 1
    [⟨S1024x750, (Host.topK S1024x750 1 (FloatOps.cmpfTotal .gt) s sliceFits_S1024x100000_S1024x750).2⟩,
      ⟨S1024x1, broadcastInDim S1024x1 ![0] bcast_S1024_S1024x1_0 real⟩] concatenates_S1024x750_S1024x1_S1024x751_d1

/-- A negative row number counts from the table's end. -/
def wrapped (idx : S1024x751.Idx → Elt F .i32) : S1024x751.Idx → Elt F .i32 :=
  select (cmpi .slt idx (broadcastInDim S1024x751 ![] bcast_S_S1024x751 (constantI S_ 32 0#32)))
    (addi idx (broadcastInDim S1024x751 ![] bcast_S_S1024x751 (constantI S_ 32 100000#32))) idx

/-- Which of the row numbers lie in the table. -/
def inTable (j : S1024x751x1.Idx → Elt F .i32) : S1024x751.Idx → Elt F .i1 :=
  Host.reduce IntOp.andi
    (andi (cmpi .sge j (broadcastInDim S1024x751x1 ![] bcast_S_S1024x751x1 (constantI S_ 32 0#32)))
      (cmpi .sle j (broadcastInDim S1024x751x1 ![0, 1, 2] bcast_S1x1x1_S1024x751x1_0_1_2
        (broadcastInDim S1x1x1 ![2] bcast_S1_S1x1x1_2 (constantI S1 32 99999#32)))))
    (constantI S_ 1 1#1) reducesTo_S1024x751x1_S1024x751_d2 h_S_

/-- The drawn rows' inner products, read out of the full array of inner products. -/
def fetched (ip : S1024x100000.Idx → Elt F .f32) (idx : S1024x751.Idx → Elt F .i32) : S1024x751.Idx → Elt F .f32 :=
  select (inTable (shapeCast S1024x751x1 (wrapped idx) shapeCasts_S1024x751_S1024x751x1))
    (Host.gather gather_S1024x100000_S1024x751x1_S1024x751_n_1_0_0_1_2_11 ip
      (shapeCast S1024x751x1 (wrapped idx) shapeCasts_S1024x751_S1024x751x1))
    (broadcastInDim S1024x751 ![] bcast_S_S1024x751 (constant S_ .f32 0x7FC00000#32))

/-- The inner products over the temperature. -/
def scaled (x : S1024x751.Idx → Elt F .f32) : S1024x751.Idx → Elt F .f32 :=
  Host.divf x (broadcastInDim S1024x751 ![] bcast_S_S1024x751 (constant S_ .f32 0x3F000000#32))

/-- The exponentials of the scaled inner products less the row's largest. -/
def expos (x : S1024x751.Idx → Elt F .f32) : S1024x751.Idx → Elt F .f32 :=
  Host.exp (subf (scaled x) (broadcastInDim S1024x751 ![0, 1] bcast_S1024x1_S1024x751_0_1
    (broadcastInDim S1024x1 ![0] bcast_S1024_S1024x1_0
      (maximumf (broadcastInDim S1024 ![] bcast_S_S1024 (constant S_ .f32 0xFF800000#32))
        (Host.reduce FloatOps.maximumf (scaled x) (constant S_ .f32 0xFF800000#32) reducesTo_S1024x751_S1024_d1 h_S_)))))

/-- The softmax along each row. -/
def probs (x : S1024x751.Idx → Elt F .f32) : S1024x751.Idx → Elt F .f32 :=
  Host.divf (expos x) (broadcastInDim S1024x751 ![0, 1] bcast_S1024x1_S1024x751_0_1
    (broadcastInDim S1024x1 ![0] bcast_S1024_S1024x1_0
      (Host.reduceAdd (expos x) (constant S_ .f32 0x00000000#32) reducesTo_S1024x751_S1024_d1 h_S_)))

/-- The place of each row's largest probability. -/
def best (p : S1024x751.Idx → Elt F .f32) : S1024.Idx → Elt F .i32 := fun j =>
  (Host.argReduce reducer_argmax_f32_i32 p (iotaInDim S1024x751 32 1) (constant S_ .f32 0xFF800000#32) (constantI S_ 32 0#32)
    reducesTo_S1024x751_S1024_d1 h_S_ j).2

/-- A negative place counts from the row's end. -/
def placed (b : S1024x1.Idx → Elt F .i32) : S1024x1x1.Idx → Elt F .i32 :=
  shapeCast S1024x1x1 (select (cmpi .slt b (broadcastInDim S1024x1 ![] bcast_S_S1024x1 (constantI S_ 32 0#32)))
    (addi b (broadcastInDim S1024x1 ![] bcast_S_S1024x1 (constantI S_ 32 751#32))) b) shapeCasts_S1024x1_S1024x1x1

/-- The drawn row number at a place of each row. -/
def named (idx : S1024x751.Idx → Elt F .i32) (b : S1024x1.Idx → Elt F .i32) : S1024x1.Idx → Elt F .i32 :=
  select (Host.reduce IntOp.andi
      (andi (cmpi .sge (placed (F := F) b) (broadcastInDim S1024x1x1 ![] bcast_S_S1024x1x1 (constantI S_ 32 0#32)))
        (cmpi .sle (placed (F := F) b) (broadcastInDim S1024x1x1 ![0, 1, 2] bcast_S1x1x1_S1024x1x1_0_1_2
          (broadcastInDim S1x1x1 ![2] bcast_S1_S1x1x1_2 (constantI S1 32 750#32)))))
      (constantI S_ 1 1#1) reducesTo_S1024x1x1_S1024x1_d2 h_S_)
    (Host.gather gather_S1024x751_S1024x1x1_S1024x1_n_1_0_0_1_2_11 idx (placed (F := F) b))
    (broadcastInDim S1024x1 ![] bcast_S_S1024x1 (constantI S_ 32 2147483648#32))

/-- The second result: the drawn row of the largest probability. -/
def target (idx : S1024x751.Idx → Elt F .i32) (p : S1024x751.Idx → Elt F .f32) : S1024.Idx → Elt F .i32 :=
  shapeCast S1024 (named (F := F) idx (broadcastInDim S1024x1 ![0] bcast_S1024_S1024x1_0 (best p))) shapeCasts_S1024x1_S1024

/-- The query number beside each drawn row. -/
def queryOf : S1024x1.Idx → Elt F .i32 :=
  select (cmpi .slt (broadcastInDim S1024x1 ![0] bcast_S1024_S1024x1_0 (iotaInDim S1024 32 0))
      (broadcastInDim S1024x1 ![] bcast_S_S1024x1 (constantI S_ 32 0#32)))
    (addi (broadcastInDim S1024x1 ![0] bcast_S1024_S1024x1_0 (iotaInDim S1024 32 0))
      (broadcastInDim S1024x1 ![] bcast_S_S1024x1 (constantI S_ 32 1024#32)))
    (broadcastInDim S1024x1 ![0] bcast_S1024_S1024x1_0 (iotaInDim S1024 32 0))

/-- The first result: zeros, with each drawn row's probability written at its place. -/
def spread (idx : S1024x751.Idx → Elt F .i32) (p : S1024x751.Idx → Elt F .f32) : S1024x100000.Idx → Elt F .f32 :=
  Host.scatter scatter_S1024x100000_S1024x751x2_S1024x751_n_01_01_2 (fun _ b => b)
    (broadcastInDim S1024x100000 ![] bcast_S_S1024x100000 (constant S_ .f32 0x00000000#32))
    (concatenate S1024x751x2 2
      [⟨S1024x751x1, broadcastInDim S1024x751x1 ![0, 1] bcast_S1024x751_S1024x751x1_0_1
          (broadcastInDim S1024x751 ![0, 1] bcast_S1024x1_S1024x751_0_1 (queryOf (F := F)))⟩,
        ⟨S1024x751x1, broadcastInDim S1024x751x1 ![0, 1] bcast_S1024x751_S1024x751x1_0_1 (wrapped (F := F) idx)⟩]
      concatenates_S1024x751x1_S1024x751x1_S1024x751x2_d2) p

/-- The reference's scores: the negated squared distances. -/
def scores (q : S1024x128.Idx → Elt F .f32) (m : S100000x128.Idx → Elt F .f32) : S1024x100000.Idx → Elt F .f32 :=
  Host.negf (addf
    (subf
      (broadcastInDim S1024x100000 ![0, 1] Cert.ReferenceIdeal.Gen.bcast_S1024x1_S1024x100000_0_1
        (broadcastInDim S1024x1 ![0] bcast_S1024_S1024x1_0
          (Host.reduceAdd (mulf q q) (constant S_ .f32 0x00000000#32) Cert.ReferenceIdeal.Gen.reducesTo_S1024x128_S1024_d1 h_S_)))
      (mulf (broadcastInDim S1024x100000 ![] bcast_S_S1024x100000 (constant S_ .f32 0x40000000#32))
        (Host.dotGeneral Cert.ReferenceIdeal.dot_S1024x128_S128x100000_S1024x100000_1_0_0_1_n_n none q
          (transpose Cert.ReferenceIdeal.S128x100000 [1, 0] m Cert.ReferenceIdeal.Gen.transposes_S100000x128_S128x100000_1_0))))
    (broadcastInDim S1024x100000 ![0, 1] Cert.ReferenceIdeal.Gen.bcast_S1x100000_S1024x100000_0_1
      (broadcastInDim Cert.ReferenceIdeal.S1x100000 ![1] Cert.ReferenceIdeal.Gen.bcast_S100000_S1x100000_1
        (Host.reduceAdd (mulf m m) (constant S_ .f32 0x00000000#32) Cert.ReferenceIdeal.Gen.reducesTo_S100000x128_S100000_d1 h_S_))))

/-- The drawn rows themselves, as the reference fetches them. -/
def rows (m : S100000x128.Idx → Elt F .f32) (idx : S1024x751.Idx → Elt F .i32) :
    Cert.ReferenceIdeal.S1024x751x128.Idx → Elt F .f32 :=
  select (broadcastInDim Cert.ReferenceIdeal.S1024x751x128 ![0, 1] Cert.ReferenceIdeal.Gen.bcast_S1024x751_S1024x751x128_0_1
      (inTable (F := F) (broadcastInDim S1024x751x1 ![0, 1] bcast_S1024x751_S1024x751x1_0_1 (wrapped (F := F) idx))))
    (Host.gather Cert.ReferenceIdeal.gather_S100000x128_S1024x751x1_S1024x751x128_2_0_n_n_0_2_1128 m
      (broadcastInDim S1024x751x1 ![0, 1] bcast_S1024x751_S1024x751x1_0_1 (wrapped (F := F) idx)))
    (broadcastInDim Cert.ReferenceIdeal.S1024x751x128 ![] Cert.ReferenceIdeal.Gen.bcast_S_S1024x751x128 (constant S_ .f32 0x7FC00000#32))

/-- The drawn rows' inner products with their query, as the reference forms them. -/
def products (q : S1024x128.Idx → Elt F .f32) (m : S100000x128.Idx → Elt F .f32) (idx : S1024x751.Idx → Elt F .i32) :
    S1024x751.Idx → Elt F .f32 :=
  Host.dotGeneral Cert.ReferenceIdeal.dot_S1024x751x128_S1024x128_S1024x751_2_1_1_n_0_0 none (rows m idx) q

end Cert.Lines

end
-- ==== Proof.KernelTail.lean ====
/- The lines after the scoring kernel, stretch by stretch: what each leaves, from what it finds. -/
module

public import proofs.«01_k».proof.Proof.Lines
public import proofs.«01_k».proof.Proof.Gen.KernelIdeal.Frame

@[expose] public section

noncomputable section

namespace Cert.IdealProof

open Cert.KernelIdeal Cert.KernelIdeal.Gen
open Idealize.ShloMosaic Idealize.ShloMosaic.TcCoe Idealize.SL.Sem

variable {F : FTy → Type} [FloatOps F]

/-- What the first stretch leaves: the rows drawn. -/
theorem at0 (V : Valuation τ sig (Elt F)) :
    StableHlo.after hostOps1 V (main_v2 : DevRef τ sig)
      = Lines.drawn (V (main_v0_1 : DevRef τ sig)) (V (main_arg2 : DevRef τ sig)) := by
  after_results
  rfl

/-- The second: the drawn rows' inner products. -/
theorem at1 (V : Valuation τ sig (Elt F)) :
    StableHlo.after hostOps1_1 V (main_v3 : DevRef τ sig) = Lines.fetched (V (main_v0_0 : DevRef τ sig)) (V (main_v2 : DevRef τ sig)) := by
  after_results
  simp only [StableHlo.TRef.ofBuf_toBuf]
  simp only [StableHlo.TRef.ofBuf, StableHlo.TRef.toBuf, cast_eq]
  unfold Lines.fetched Lines.inTable Lines.wrapped
  rfl

/-- The third: the probabilities. -/
theorem at2 (V : Valuation τ sig (Elt F)) :
    StableHlo.after hostOps1_2 V (main_v16 : DevRef τ sig) = Lines.probs (V (main_v3 : DevRef τ sig)) := by
  after_results
  rfl

/-- The fourth: the place of each row's largest probability. -/
theorem at3 (V : Valuation τ sig (Elt F)) :
    StableHlo.after hostOps1_3 V (main_v17 : DevRef τ sig) = Lines.best (V (main_v16 : DevRef τ sig)) := by
  after_results
  rfl

/-- The fifth: the same as a column. -/
theorem at4 (V : Valuation τ sig (Elt F)) :
    StableHlo.after hostOps1_4 V (main_v18 : DevRef τ sig) = broadcastInDim S1024x1 ![0] bcast_S1024_S1024x1_0 (V (main_v17 : DevRef τ sig)) := by
  after_results

/-- The sixth: the row number at that place. -/
theorem at5 (V : Valuation τ sig (Elt F)) :
    StableHlo.after hostOps1_5 V (main_v19 : DevRef τ sig) = Lines.named (F := F) (V (main_v2 : DevRef τ sig)) (V (main_v18 : DevRef τ sig)) := by
  after_results
  rfl

/-- The last stretch leaves the top candidates, -/
theorem at6_row (V : Valuation τ sig (Elt F)) :
    StableHlo.after hostOps1_6 V (main_v20 : DevRef τ sig) = shapeCast S1024 (V (main_v19 : DevRef τ sig)) shapeCasts_S1024x1_S1024 := by
  after_results
  rfl

/-- and the full rows of probabilities. -/
theorem at6_full (V : Valuation τ sig (Elt F)) :
    StableHlo.after hostOps1_6 V (main_v38 : DevRef τ sig) = Lines.spread (F := F) (V (main_v2 : DevRef τ sig)) (V (main_v16 : DevRef τ sig)) := by
  after_results
  rfl

/-- After the first three stretches: the rows drawn, -/
theorem idx_at (V : Valuation τ sig (Elt F)) :
    StableHlo.after hostOps1_2 (StableHlo.after hostOps1_1 (StableHlo.after hostOps1 V)) (main_v2 : DevRef τ sig)
      = Lines.drawn (V (main_v0_1 : DevRef τ sig)) (V (main_arg2 : DevRef τ sig)) := by
  rw [StableHlo.after_of_writes_sub (r := main_v2) hostOps1_2 _ hostOps1_2_writes (by decide +kernel), StableHlo.after_of_writes_sub (r := main_v2) hostOps1_1 _ hostOps1_1_writes (by decide +kernel), at0]

/-- and the probabilities. -/
theorem probs_at (V : Valuation τ sig (Elt F)) :
    StableHlo.after hostOps1_2 (StableHlo.after hostOps1_1 (StableHlo.after hostOps1 V)) (main_v16 : DevRef τ sig)
      = Lines.probs (Lines.fetched (V (main_v0_0 : DevRef τ sig)) (Lines.drawn (V (main_v0_1 : DevRef τ sig)) (V (main_arg2 : DevRef τ sig)))) := by
  rw [at2, at1, at0, StableHlo.after_of_writes_sub (r := main_v0_0) hostOps1 _ hostOps1_writes (by decide +kernel)]

/-- After all stretches: the top candidates, from what the first stretch starts with, -/
theorem row_at (V : Valuation τ sig (Elt F)) :
    StableHlo.after hostOps1_6 (StableHlo.after hostOps1_5 (StableHlo.after hostOps1_4 (StableHlo.after hostOps1_3
      (StableHlo.after hostOps1_2 (StableHlo.after hostOps1_1 (StableHlo.after hostOps1 V)))))) (main_v20 : DevRef τ sig)
      = Lines.target (Lines.drawn (V (main_v0_1 : DevRef τ sig)) (V (main_arg2 : DevRef τ sig)))
          (Lines.probs (Lines.fetched (V (main_v0_0 : DevRef τ sig)) (Lines.drawn (V (main_v0_1 : DevRef τ sig)) (V (main_arg2 : DevRef τ sig))))) := by
  rw [at6_row, at5, at4, at3, StableHlo.after_of_writes_sub (r := main_v2) hostOps1_4 _ hostOps1_4_writes (by decide +kernel), StableHlo.after_of_writes_sub (r := main_v2) hostOps1_3 _ hostOps1_3_writes (by decide +kernel), idx_at, probs_at]
  rfl

/-- and the full rows of probabilities. -/
theorem full_at (V : Valuation τ sig (Elt F)) :
    StableHlo.after hostOps1_6 (StableHlo.after hostOps1_5 (StableHlo.after hostOps1_4 (StableHlo.after hostOps1_3
      (StableHlo.after hostOps1_2 (StableHlo.after hostOps1_1 (StableHlo.after hostOps1 V)))))) (main_v38 : DevRef τ sig)
      = Lines.spread (F := F) (Lines.drawn (V (main_v0_1 : DevRef τ sig)) (V (main_arg2 : DevRef τ sig)))
          (Lines.probs (Lines.fetched (V (main_v0_0 : DevRef τ sig)) (Lines.drawn (V (main_v0_1 : DevRef τ sig)) (V (main_arg2 : DevRef τ sig))))) := by
  rw [at6_full, StableHlo.after_of_writes_sub (r := main_v2) hostOps1_5 _ hostOps1_5_writes (by decide +kernel), StableHlo.after_of_writes_sub (r := main_v2) hostOps1_4 _ hostOps1_4_writes (by decide +kernel), StableHlo.after_of_writes_sub (r := main_v2) hostOps1_3 _ hostOps1_3_writes (by decide +kernel), StableHlo.after_of_writes_sub (r := main_v16) hostOps1_5 _ hostOps1_5_writes (by decide +kernel), StableHlo.after_of_writes_sub (r := main_v16) hostOps1_4 _ hostOps1_4_writes (by decide +kernel), StableHlo.after_of_writes_sub (r := main_v16) hostOps1_3 _ hostOps1_3_writes (by decide +kernel), idx_at, probs_at]

end Cert.IdealProof

end
-- ==== Proof.IdealRun.lean ====
/- The run of the kernel over the extended reals: its two results, from the arguments. -/
module

public import proofs.«01_k».proof.Proof.IdealValue
public import proofs.«01_k».proof.Proof.KernelTail

@[expose] public section

noncomputable section

namespace Cert.IdealProof

open Cert Cert.KernelIdeal Cert.KernelIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

variable (m : (ℓ : Loc nD τ sig) → Buf (Elt Ideal) ℓ) (ρ : Dev nD → PrngReg)

/-- The rows the kernel draws, -/
abbrev idxOf (q : S1024x128.Idx → Elt Ideal .f32) (M : S100000x128.Idx → Elt Ideal .f32) (real : S1024.Idx → Elt Ideal .i32) :
    S1024x751.Idx → Elt Ideal .i32 := Lines.drawn (F := Ideal) (scoreAll q M) real

/-- and their probabilities. -/
abbrev probsOf (q : S1024x128.Idx → Elt Ideal .f32) (M : S100000x128.Idx → Elt Ideal .f32) (real : S1024.Idx → Elt Ideal .i32) :
    S1024x751.Idx → Elt Ideal .f32 := Lines.probs (F := Ideal) (Lines.fetched (F := Ideal) (ipAll q M) (idxOf q M real))

/-- The memory the later lines start from: the two arrays written, the real rows as given. -/
abbrev exitV (c : Dev nD) : Valuation τ sig (Elt Ideal) :=
  Pipeline.withArrays spec0 c (V0 m c) fun w => (dats m 0 c).arrAt w cfg0.N

/-- There the inner products are in the first array, -/
theorem exit_ip (c : Dev nD) : exitV m c (main_v0_0 : DevRef τ sig)
    = ipAll (m ((c : Thread nD τ).loc main_arg0)) (m ((c : Thread nD τ).loc main_arg1)) :=
  (Pipeline.withArrays_arr spec0 (by decide) c (V0 m c) (fun w => (dats m 0 c).arrAt w cfg0.N) 2).trans (arr_ip m c)

/-- the scores in the second, -/
theorem exit_score (c : Dev nD) : exitV m c (main_v0_1 : DevRef τ sig)
    = scoreAll (m ((c : Thread nD τ).loc main_arg0)) (m ((c : Thread nD τ).loc main_arg1)) :=
  (Pipeline.withArrays_arr spec0 (by decide) c (V0 m c) (fun w => (dats m 0 c).arrAt w cfg0.N) 3).trans (arr_score m c)

/-- and the real rows as given. -/
theorem exit_real (c : Dev nD) : exitV m c (main_arg2 : DevRef τ sig) = m ((c : Thread nD τ).loc main_arg2) :=
  (Pipeline.withArrays_of_ne spec0 c (V0 m c) _ main_arg2 (by exact (by decide : ∀ w, Pipeline.arrRef spec0 w ≠ main_arg2))).trans
    (V_main_arg2 m c)

/-- What the later lines leave, one stretch after another. -/
theorem tail_split (c : Dev nD) (b : Ref sig .tc) :
    Pipeline.afterTail₀ cfgs (dats m) 0 (V0 m) [hostOps1, hostOps1_1, hostOps1_2, hostOps1_3, hostOps1_4, hostOps1_5, hostOps1_6] c b
      = StableHlo.after hostOps1_6 (StableHlo.after hostOps1_5 (StableHlo.after hostOps1_4 (StableHlo.after hostOps1_3
          (StableHlo.after hostOps1_2 (StableHlo.after hostOps1_1 (StableHlo.after hostOps1 (exitV m c))))))) (Proc.devRef .tc b) := by
  unfold Pipeline.afterTail₀
  simp only [List.flatten_cons, List.flatten_nil, List.append_nil, StableHlo.after_append]

/-- The first result at the program's end: the full rows of probabilities. -/
theorem end_full (c : Dev nD) :
    Pipeline.afterTail₀ cfgs (dats m) 0 (V0 m) [hostOps1, hostOps1_1, hostOps1_2, hostOps1_3, hostOps1_4, hostOps1_5, hostOps1_6] c main_v38
      = Lines.spread (F := Ideal)
          (idxOf (m ((c : Thread nD τ).loc main_arg0)) (m ((c : Thread nD τ).loc main_arg1)) (m ((c : Thread nD τ).loc main_arg2)))
          (probsOf (m ((c : Thread nD τ).loc main_arg0)) (m ((c : Thread nD τ).loc main_arg1)) (m ((c : Thread nD τ).loc main_arg2))) := by
  rw [tail_split]
  refine (full_at (exitV m c)).trans ?_
  rw [exit_ip, exit_score, exit_real]

/-- The second: the top candidates. -/
theorem end_row (c : Dev nD) :
    Pipeline.afterTail₀ cfgs (dats m) 0 (V0 m) [hostOps1, hostOps1_1, hostOps1_2, hostOps1_3, hostOps1_4, hostOps1_5, hostOps1_6] c main_v20
      = Lines.target (F := Ideal)
          (idxOf (m ((c : Thread nD τ).loc main_arg0)) (m ((c : Thread nD τ).loc main_arg1)) (m ((c : Thread nD τ).loc main_arg2)))
          (probsOf (m ((c : Thread nD τ).loc main_arg0)) (m ((c : Thread nD τ).loc main_arg1)) (m ((c : Thread nD τ).loc main_arg2))) := by
  rw [tail_split]
  refine (row_at (exitV m c)).trans ?_
  rw [exit_ip, exit_score, exit_real]

set_option maxHeartbeats 1000000 in
/-- The kernel's run: its two results from the arguments, which stay, and no counter off zero. -/
theorem run : θ_run defs (onTc (τ := τ) (main (F := Ideal))) ⟨m, fun _ => 0, ρ⟩ (fun r => (∀ c : Dev nD,
      r.2.mem ((c.tc : Thread nD τ).loc main_v38) = Lines.spread (F := Ideal)
          (idxOf (m ((c.tc : Thread nD τ).loc main_arg0)) (m ((c.tc : Thread nD τ).loc main_arg1)) (m ((c.tc : Thread nD τ).loc main_arg2)))
          (probsOf (m ((c.tc : Thread nD τ).loc main_arg0)) (m ((c.tc : Thread nD τ).loc main_arg1)) (m ((c.tc : Thread nD τ).loc main_arg2)))
      ∧ r.2.mem ((c.tc : Thread nD τ).loc main_v20) = Lines.target (F := Ideal)
          (idxOf (m ((c.tc : Thread nD τ).loc main_arg0)) (m ((c.tc : Thread nD τ).loc main_arg1)) (m ((c.tc : Thread nD τ).loc main_arg2)))
          (probsOf (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_around cfgs (dats m) 0 launch0 defs₀ Variants.none m ρ main
    (body_ok m) (fun c w => by unfold Dat.share; split <;> rfl) (fun _ _ => rfl) (V0 m) _ sfx_sub sfx_fresh sfx_keeps
    (hmain m Variants.none) (A_eq m) (fun _ _ => rfl) _
    (fun r h => ⟨fun c => ⟨((h.1 c).2 main_v38 (Pipeline.mem_restRefs_of main_v38 (by decide) (by decide))).trans (end_full m c),
      ((h.1 c).2 main_v20 (Pipeline.mem_restRefs_of main_v20 (by decide) (by decide))).trans (end_row m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (W_main_arg2 m (dats m) c)⟩, h.2⟩)

end Cert.IdealProof

end
-- ==== Proof.RefRun.lean ====
/- The reference's run. It is a straight line of array lines, told here in seven stretches: the scores and the rows
   drawn, the fetch of those rows, their softmax, its largest entry, and the two results. -/
module

public import proofs.«01_k».proof.Proof.Lines
public import Idealize.ShloMosaic.Lib.StableHlo.Run
public import Idealize.ShloMosaic.Lib.Pipeline.Regions
public import Idealize.ShloMosaic.Lib.Quiescent

@[expose] public section

noncomputable section

namespace Cert.RefProof

open Cert.ReferenceIdeal Cert.ReferenceIdeal.Gen
open Idealize.ShloMosaic Idealize.ShloMosaic.TcCoe Idealize.SL.Sem

variable {F : FTy → Type} [FloatOps F]

/-- The scores, the rows drawn by them and the real row behind. -/
abbrev lines0 : List (HloOp τ sig (Elt F)) :=
  [ StableHlo.binary main_arg0 main_arg0 main_v0 (mulf : (⟨S1024x128, .f32⟩ : BufTy).Contents (Elt F) → (⟨S1024x128, .f32⟩ : BufTy).Contents (Elt F) → (⟨S1024x128, .f32⟩ : BufTy).Contents (Elt F)),
    StableHlo.nullary main_cst (constant S_ .f32 0x00000000#32),
    StableHlo.binary main_v0 main_cst main_v1 ((fun x v => Host.reduceAdd x v reducesTo_S1024x128_S1024_d1 h_S_) : (⟨S1024x128, .f32⟩ : BufTy).Contents (Elt F) → (⟨S_, .f32⟩ : BufTy).Contents (Elt F) → (⟨S1024, .f32⟩ : BufTy).Contents (Elt F)),
    StableHlo.unary main_v1 main_v2 (broadcastInDim S1024x1 ![0] bcast_S1024_S1024x1_0 : (⟨S1024, .f32⟩ : BufTy).Contents (Elt F) → (⟨S1024x1, .f32⟩ : BufTy).Contents (Elt F)),
    StableHlo.binary main_arg1 main_arg1 main_v3 (mulf : (⟨S100000x128, .f32⟩ : BufTy).Contents (Elt F) → (⟨S100000x128, .f32⟩ : BufTy).Contents (Elt F) → (⟨S100000x128, .f32⟩ : BufTy).Contents (Elt F)),
    StableHlo.nullary main_cst_0 (constant S_ .f32 0x00000000#32),
    StableHlo.binary main_v3 main_cst_0 main_v4 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    StableHlo.unary main_arg1 main_v5 ((transpose S128x100000 [1, 0] · transposes_S100000x128_S128x100000_1_0) : (⟨S100000x128, .f32⟩ : BufTy).Contents (Elt F) → (⟨S128x100000, .f32⟩ : BufTy).Contents (Elt F)),
    StableHlo.binary main_arg0 main_v5 main_v6 ((fun l r => Host.dotGeneral dot_S1024x128_S128x100000_S1024x100000_1_0_0_1_n_n none l r) : (⟨S1024x128, .f32⟩ : BufTy).Contents (Elt F) → (⟨S128x100000, .f32⟩ : BufTy).Contents (Elt F) → (⟨S1024x100000, .f32⟩ : BufTy).Contents (Elt F)),
    StableHlo.nullary main_cst_1 (constant S_ .f32 0x40000000#32),
    StableHlo.unary main_cst_1 main_v7 (broadcastInDim S1024x100000 ![] bcast_S_S1024x100000 : (⟨S_, .f32⟩ : BufTy).Contents (Elt F) → (⟨S1024x100000, .f32⟩ : BufTy).Contents (Elt F)),
    StableHlo.binary main_v7 main_v6 main_v8 (mulf : (⟨S1024x100000, .f32⟩ : BufTy).Contents (Elt F) → (⟨S1024x100000, .f32⟩ : BufTy).Contents (Elt F) → (⟨S1024x100000, .f32⟩ : BufTy).Contents (Elt F)),
    StableHlo.unary main_v2 main_v9 (broadcastInDim S1024x100000 ![0, 1] bcast_S1024x1_S1024x100000_0_1 : (⟨S1024x1, .f32⟩ : BufTy).Contents (Elt F) → (⟨S1024x100000, .f32⟩ : BufTy).Contents (Elt F)),
    StableHlo.binary main_v9 main_v8 main_v10 (subf : (⟨S1024x100000, .f32⟩ : BufTy).Contents (Elt F) → (⟨S1024x100000, .f32⟩ : BufTy).Contents (Elt F) → (⟨S1024x100000, .f32⟩ : BufTy).Contents (Elt F)),
    StableHlo.unary main_v4 main_v11 (broadcastInDim S1x100000 ![1] bcast_S100000_S1x100000_1 : (⟨S100000, .f32⟩ : BufTy).Contents (Elt F) → (⟨S1x100000, .f32⟩ : BufTy).Contents (Elt F)),
    StableHlo.unary main_v11 main_v12 (broadcastInDim S1024x100000 ![0, 1] bcast_S1x100000_S1024x100000_0_1 : (⟨S1x100000, .f32⟩ : BufTy).Contents (Elt F) → (⟨S1024x100000, .f32⟩ : BufTy).Contents (Elt F)),
    StableHlo.binary main_v10 main_v12 main_v13 (addf : (⟨S1024x100000, .f32⟩ : BufTy).Contents (Elt F) → (⟨S1024x100000, .f32⟩ : BufTy).Contents (Elt F) → (⟨S1024x100000, .f32⟩ : BufTy).Contents (Elt F)),
    StableHlo.unary main_v13 main_v14 (Host.negf : (⟨S1024x100000, .f32⟩ : BufTy).Contents (Elt F) → (⟨S1024x100000, .f32⟩ : BufTy).Contents (Elt F)),
    StableHlo.unary main_v14 main_values ((fun x => (Host.topK S1024x750 1 (FloatOps.cmpfTotal .gt) x sliceFits_S1024x100000_S1024x750).1) : (⟨S1024x100000, .f32⟩ : BufTy).Contents (Elt F) → (⟨S1024x750, .f32⟩ : BufTy).Contents (Elt F)),
    StableHlo.unary main_v14 main_indices ((fun x => (Host.topK S1024x750 1 (FloatOps.cmpfTotal .gt) x sliceFits_S1024x100000_S1024x750).2) : (⟨S1024x100000, .f32⟩ : BufTy).Contents (Elt F) → (⟨S1024x750, .i32⟩ : BufTy).Contents (Elt F)),
    StableHlo.unary main_arg2 main_v15 (broadcastInDim S1024x1 ![0] bcast_S1024_S1024x1_0 : (⟨S1024, .i32⟩ : BufTy).Contents (Elt F) → (⟨S1024x1, .i32⟩ : BufTy).Contents (Elt F)),
    StableHlo.binary main_indices main_v15 main_v16 ((fun a b => concatenate S1024x751 1 [⟨S1024x750, a⟩, ⟨S1024x1, b⟩] concatenates_S1024x750_S1024x1_S1024x751_d1) : (⟨S1024x750, .i32⟩ : BufTy).Contents (Elt F) → (⟨S1024x1, .i32⟩ : BufTy).Contents (Elt F) → (⟨S1024x751, .i32⟩ : BufTy).Contents (Elt F)) ]

/-- The arrays those lines write. -/
abbrev lines0_W : List (Ref sig .tc) := [main_v0, main_cst, main_v1, main_v2, main_v3, main_cst_0, main_v4, main_v5, main_v6, main_cst_1, main_v7, main_v8, main_v9, main_v10, main_v11, main_v12, main_v13, main_v14, main_values, main_indices, main_v15, main_v16]

/-- These lines touch arrays only, -/
theorem lines0_sub : (lines0 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub ..⟩

/-- determine what they write, -/
theorem lines0_fresh : (lines0 : List (HloOp τ sig (Elt F))).Forall fun op => op.fresh = ∅ := by
  simp only [List.Forall]; repeat' constructor

/-- and write the arrays listed. -/
theorem lines0_writes : (lines0 : List (HloOp τ sig (Elt F))).Forall fun op => op.writes ⊆ (lines0_W.map (Proc.devRef (τ := τ) .tc)).toFinset :=
  StableHlo.forall_writes_sub_of_map rfl

/-- The drawn rows' fetch. -/
abbrev lines1 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1024x751, .i32⟩) (broadcastInDim S1024x751 ![] bcast_S_S1024x751),
    StableHlo.TRef.binary (.of main_v16 : StableHlo.TRef sig ⟨S1024x751, .i32⟩) (.of main_call0_v0 : StableHlo.TRef sig ⟨S1024x751, .i32⟩) (.of main_call0_v1 : StableHlo.TRef sig ⟨S1024x751, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S1024x751, .i32⟩) (broadcastInDim S1024x751 ![] bcast_S_S1024x751),
    StableHlo.TRef.binary (.of main_v16 : StableHlo.TRef sig ⟨S1024x751, .i32⟩) (.of main_call0_v2 : StableHlo.TRef sig ⟨S1024x751, .i32⟩) (.of main_call0_v3 : StableHlo.TRef sig ⟨S1024x751, .i32⟩) addi,
    StableHlo.TRef.ternary (.of main_call0_v1 : StableHlo.TRef sig ⟨S1024x751, .i1⟩) (.of main_call0_v3 : StableHlo.TRef sig ⟨S1024x751, .i32⟩) (.of main_v16 : StableHlo.TRef sig ⟨S1024x751, .i32⟩) (.of main_call0_v4 : StableHlo.TRef sig ⟨S1024x751, .i32⟩) select,
    StableHlo.TRef.unary (.of main_call0_v4 : StableHlo.TRef sig ⟨S1024x751, .i32⟩) (.of main_call0_v5 : StableHlo.TRef sig ⟨S1024x751x1, .i32⟩) (broadcastInDim S1024x751x1 ![0, 1] bcast_S1024x751_S1024x751x1_0_1),
    StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1024x751x1, .i32⟩) (broadcastInDim S1024x751x1 ![] bcast_S_S1024x751x1),
    StableHlo.TRef.binary (.of main_call0_v5 : StableHlo.TRef sig ⟨S1024x751x1, .i32⟩) (.of main_call0_v6 : StableHlo.TRef sig ⟨S1024x751x1, .i32⟩) (.of main_call0_v7 : StableHlo.TRef sig ⟨S1024x751x1, .i1⟩) (cmpi .sge),
    StableHlo.TRef.unary (.of main_call0_c_1 : StableHlo.TRef sig ⟨S1, .i32⟩) (.of main_call0_v8 : StableHlo.TRef sig ⟨S1x1x1, .i32⟩) (broadcastInDim S1x1x1 ![2] bcast_S1_S1x1x1_2),
    StableHlo.TRef.unary (.of main_call0_v8 : StableHlo.TRef sig ⟨S1x1x1, .i32⟩) (.of main_call0_v9 : StableHlo.TRef sig ⟨S1024x751x1, .i32⟩) (broadcastInDim S1024x751x1 ![0, 1, 2] bcast_S1x1x1_S1024x751x1_0_1_2),
    StableHlo.TRef.binary (.of main_call0_v5 : StableHlo.TRef sig ⟨S1024x751x1, .i32⟩) (.of main_call0_v9 : StableHlo.TRef sig ⟨S1024x751x1, .i32⟩) (.of main_call0_v10 : StableHlo.TRef sig ⟨S1024x751x1, .i1⟩) (cmpi .sle),
    StableHlo.TRef.binary (.of main_call0_v7 : StableHlo.TRef sig ⟨S1024x751x1, .i1⟩) (.of main_call0_v10 : StableHlo.TRef sig ⟨S1024x751x1, .i1⟩) (.of main_call0_v11 : StableHlo.TRef sig ⟨S1024x751x1, .i1⟩) andi,
    StableHlo.TRef.nullary (.of main_call0_c_3 : StableHlo.TRef sig ⟨S_, .i1⟩) (constantI S_ 1 1#1),
    StableHlo.TRef.binary (.of main_call0_v11 : StableHlo.TRef sig ⟨S1024x751x1, .i1⟩) (.of main_call0_c_3 : StableHlo.TRef sig ⟨S_, .i1⟩) (.of main_call0_v12 : StableHlo.TRef sig ⟨S1024x751, .i1⟩) (fun x v => Host.reduce IntOp.andi x v reducesTo_S1024x751x1_S1024x751_d2 h_S_),
    StableHlo.TRef.binary (.of main_arg1 : StableHlo.TRef sig ⟨S100000x128, .f32⟩) (.of main_call0_v5 : StableHlo.TRef sig ⟨S1024x751x1, .i32⟩) (.of main_call0_v13 : StableHlo.TRef sig ⟨S1024x751x128, .f32⟩) (fun x i => Host.gather gather_S100000x128_S1024x751x1_S1024x751x128_2_0_n_n_0_2_1128 x i),
    StableHlo.TRef.unary (.of main_call0_v12 : StableHlo.TRef sig ⟨S1024x751, .i1⟩) (.of main_call0_v14 : StableHlo.TRef sig ⟨S1024x751x128, .i1⟩) (broadcastInDim S1024x751x128 ![0, 1] bcast_S1024x751_S1024x751x128_0_1),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S1024x751x128, .f32⟩) (broadcastInDim S1024x751x128 ![] bcast_S_S1024x751x128),
    StableHlo.TRef.ternary (.of main_call0_v14 : StableHlo.TRef sig ⟨S1024x751x128, .i1⟩) (.of main_call0_v13 : StableHlo.TRef sig ⟨S1024x751x128, .f32⟩) (.of main_call0_v15 : StableHlo.TRef sig ⟨S1024x751x128, .f32⟩) (.of main_v17 : StableHlo.TRef sig ⟨S1024x751x128, .f32⟩) select ]

/-- The arrays those lines write. -/
abbrev lines1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v17]

/-- These lines touch arrays only, -/
theorem lines1_sub : (lines1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- determine what they write, -/
theorem lines1_fresh : (lines1 : List (HloOp τ sig (Elt F))).Forall fun op => op.fresh = ∅ := by
  simp only [List.Forall]; repeat' constructor

/-- and write the arrays listed. -/
theorem lines1_writes : (lines1 : List (HloOp τ sig (Elt F))).Forall fun op => op.writes ⊆ (lines1_W.map (Proc.devRef (τ := τ) .tc)).toFinset :=
  StableHlo.forall_writes_sub_of_map rfl

/-- The inner products and the softmax. -/
abbrev lines2 : List (HloOp τ sig (Elt F)) :=
  [ StableHlo.binary main_v17 main_arg0 main_v18 ((fun l r => Host.dotGeneral dot_S1024x751x128_S1024x128_S1024x751_2_1_1_n_0_0 none l r) : (⟨S1024x751x128, .f32⟩ : BufTy).Contents (Elt F) → (⟨S1024x128, .f32⟩ : BufTy).Contents (Elt F) → (⟨S1024x751, .f32⟩ : BufTy).Contents (Elt F)),
    StableHlo.nullary main_cst_2 (constant S_ .f32 0x3F000000#32),
    StableHlo.unary main_cst_2 main_v19 (broadcastInDim S1024x751 ![] bcast_S_S1024x751 : (⟨S_, .f32⟩ : BufTy).Contents (Elt F) → (⟨S1024x751, .f32⟩ : BufTy).Contents (Elt F)),
    StableHlo.binary main_v18 main_v19 main_v20 (Host.divf : (⟨S1024x751, .f32⟩ : BufTy).Contents (Elt F) → (⟨S1024x751, .f32⟩ : BufTy).Contents (Elt F) → (⟨S1024x751, .f32⟩ : BufTy).Contents (Elt F)),
    StableHlo.nullary main_cst_3 (constant S_ .f32 0xFF800000#32),
    StableHlo.binary main_v20 main_cst_3 main_v21 ((fun x v => Host.reduce FloatOps.maximumf x v reducesTo_S1024x751_S1024_d1 h_S_) : (⟨S1024x751, .f32⟩ : BufTy).Contents (Elt F) → (⟨S_, .f32⟩ : BufTy).Contents (Elt F) → (⟨S1024, .f32⟩ : BufTy).Contents (Elt F)),
    StableHlo.nullary main_cst_4 (constant S_ .f32 0xFF800000#32),
    StableHlo.unary main_cst_4 main_v22 (broadcastInDim S1024 ![] bcast_S_S1024 : (⟨S_, .f32⟩ : BufTy).Contents (Elt F) → (⟨S1024, .f32⟩ : BufTy).Contents (Elt F)),
    StableHlo.binary main_v22 main_v21 main_v23 (maximumf : (⟨S1024, .f32⟩ : BufTy).Contents (Elt F) → (⟨S1024, .f32⟩ : BufTy).Contents (Elt F) → (⟨S1024, .f32⟩ : BufTy).Contents (Elt F)),
    StableHlo.unary main_v23 main_v24 (broadcastInDim S1024x1 ![0] bcast_S1024_S1024x1_0 : (⟨S1024, .f32⟩ : BufTy).Contents (Elt F) → (⟨S1024x1, .f32⟩ : BufTy).Contents (Elt F)),
    StableHlo.unary main_v24 main_v25 (broadcastInDim S1024x751 ![0, 1] bcast_S1024x1_S1024x751_0_1 : (⟨S1024x1, .f32⟩ : BufTy).Contents (Elt F) → (⟨S1024x751, .f32⟩ : BufTy).Contents (Elt F)),
    StableHlo.binary main_v20 main_v25 main_v26 (subf : (⟨S1024x751, .f32⟩ : BufTy).Contents (Elt F) → (⟨S1024x751, .f32⟩ : BufTy).Contents (Elt F) → (⟨S1024x751, .f32⟩ : BufTy).Contents (Elt F)),
    StableHlo.unary main_v26 main_v27 (Host.exp : (⟨S1024x751, .f32⟩ : BufTy).Contents (Elt F) → (⟨S1024x751, .f32⟩ : BufTy).Contents (Elt F)),
    StableHlo.nullary main_cst_5 (constant S_ .f32 0x00000000#32),
    StableHlo.binary main_v27 main_cst_5 main_v28 ((fun x v => Host.reduceAdd x v reducesTo_S1024x751_S1024_d1 h_S_) : (⟨S1024x751, .f32⟩ : BufTy).Contents (Elt F) → (⟨S_, .f32⟩ : BufTy).Contents (Elt F) → (⟨S1024, .f32⟩ : BufTy).Contents (Elt F)),
    StableHlo.unary main_v28 main_v29 (broadcastInDim S1024x1 ![0] bcast_S1024_S1024x1_0 : (⟨S1024, .f32⟩ : BufTy).Contents (Elt F) → (⟨S1024x1, .f32⟩ : BufTy).Contents (Elt F)),
    StableHlo.unary main_v29 main_v30 (broadcastInDim S1024x751 ![0, 1] bcast_S1024x1_S1024x751_0_1 : (⟨S1024x1, .f32⟩ : BufTy).Contents (Elt F) → (⟨S1024x751, .f32⟩ : BufTy).Contents (Elt F)),
    StableHlo.binary main_v27 main_v30 main_v31 (Host.divf : (⟨S1024x751, .f32⟩ : BufTy).Contents (Elt F) → (⟨S1024x751, .f32⟩ : BufTy).Contents (Elt F) → (⟨S1024x751, .f32⟩ : BufTy).Contents (Elt F)) ]

/-- The arrays those lines write. -/
abbrev lines2_W : List (Ref sig .tc) := [main_v18, main_cst_2, main_v19, main_v20, main_cst_3, main_v21, main_cst_4, main_v22, main_v23, main_v24, main_v25, main_v26, main_v27, main_cst_5, main_v28, main_v29, main_v30, main_v31]

/-- These lines touch arrays only, -/
theorem lines2_sub : (lines2 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩

/-- determine what they write, -/
theorem lines2_fresh : (lines2 : List (HloOp τ sig (Elt F))).Forall fun op => op.fresh = ∅ := by
  simp only [List.Forall]; repeat' constructor

/-- and write the arrays listed. -/
theorem lines2_writes : (lines2 : List (HloOp τ sig (Elt F))).Forall fun op => op.writes ⊆ (lines2_W.map (Proc.devRef (τ := τ) .tc)).toFinset :=
  StableHlo.forall_writes_sub_of_map rfl

/-- The place of the largest probability. -/
abbrev lines3 : List (HloOp τ sig (Elt F)) :=
  [ StableHlo.TRef.nullary (.of main_call1_v0 : StableHlo.TRef sig ⟨S1024x751, .i32⟩) (iotaInDim S1024x751 32 1),
    StableHlo.TRef.nullary (.of main_call1_cst : StableHlo.TRef sig ⟨S_, .f32⟩) (constant S_ .f32 0xFF800000#32),
    StableHlo.TRef.nullary (.of main_call1_c : StableHlo.TRef sig ⟨S_, .i32⟩) (constantI S_ 32 0#32),
    StableHlo.TRef.quaternary (.of main_v31 : StableHlo.TRef sig ⟨S1024x751, .f32⟩) (.of main_call1_v0 : StableHlo.TRef sig ⟨S1024x751, .i32⟩) (.of main_call1_cst : StableHlo.TRef sig ⟨S_, .f32⟩) (.of main_call1_c : StableHlo.TRef sig ⟨S_, .i32⟩) (.of main_call1_v1_0 : StableHlo.TRef sig ⟨S1024, .f32⟩) (fun x y u v j => (Host.argReduce reducer_argmax_f32_i32 x y u v reducesTo_S1024x751_S1024_d1 h_S_ j).1),
    StableHlo.TRef.quaternary (.of main_v31 : StableHlo.TRef sig ⟨S1024x751, .f32⟩) (.of main_call1_v0 : StableHlo.TRef sig ⟨S1024x751, .i32⟩) (.of main_call1_cst : StableHlo.TRef sig ⟨S_, .f32⟩) (.of main_call1_c : StableHlo.TRef sig ⟨S_, .i32⟩) (.of main_v32 : StableHlo.TRef sig ⟨S1024, .i32⟩) (fun x y u v j => (Host.argReduce reducer_argmax_f32_i32 x y u v reducesTo_S1024x751_S1024_d1 h_S_ j).2) ]

/-- The arrays those lines write. -/
abbrev lines3_W : List (Ref sig .tc) := [main_call1_v0, main_call1_cst, main_call1_c, main_call1_v1_0, main_v32]

/-- These lines touch arrays only, -/
theorem lines3_sub : (lines3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- determine what they write, -/
theorem lines3_fresh : (lines3 : List (HloOp τ sig (Elt F))).Forall fun op => op.fresh = ∅ := by
  simp only [List.Forall]; repeat' constructor

/-- and write the arrays listed. -/
theorem lines3_writes : (lines3 : List (HloOp τ sig (Elt F))).Forall fun op => op.writes ⊆ (lines3_W.map (Proc.devRef (τ := τ) .tc)).toFinset :=
  StableHlo.forall_writes_sub_of_map rfl

/-- That place as a column. -/
abbrev lines4 : List (HloOp τ sig (Elt F)) :=
  [ StableHlo.unary main_v32 main_v33 (broadcastInDim S1024x1 ![0] bcast_S1024_S1024x1_0 : (⟨S1024, .i32⟩ : BufTy).Contents (Elt F) → (⟨S1024x1, .i32⟩ : BufTy).Contents (Elt F)) ]

/-- The arrays those lines write. -/
abbrev lines4_W : List (Ref sig .tc) := [main_v33]

/-- These lines touch arrays only, -/
theorem lines4_sub : (lines4 : List (HloOp τ sig (Elt F))).Forall fun op => op.bufs ⊆ StableHlo.tcRefs τ sig :=
  StableHlo.unary_bufs_sub ..

/-- determine what they write, -/
theorem lines4_fresh : (lines4 : List (HloOp τ sig (Elt F))).Forall fun op => op.fresh = ∅ := by
  simp only [List.Forall]; repeat' constructor

/-- and write the arrays listed. -/
theorem lines4_writes : (lines4 : List (HloOp τ sig (Elt F))).Forall fun op => op.writes ⊆ (lines4_W.map (Proc.devRef (τ := τ) .tc)).toFinset :=
  StableHlo.forall_writes_sub_of_map rfl

/-- The row drawn at that place. -/
abbrev lines5 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S1024x1, .i32⟩) (broadcastInDim S1024x1 ![] bcast_S_S1024x1),
    StableHlo.TRef.binary (.of main_v33 : StableHlo.TRef sig ⟨S1024x1, .i32⟩) (.of main_call2_v0 : StableHlo.TRef sig ⟨S1024x1, .i32⟩) (.of main_call2_v1 : StableHlo.TRef sig ⟨S1024x1, .i1⟩) (cmpi .slt),
    StableHlo.TRef.nullary (.of main_call2_c_0 : StableHlo.TRef sig ⟨S_, .i32⟩) (constantI S_ 32 751#32),
    StableHlo.TRef.unary (.of main_call2_c_0 : StableHlo.TRef sig ⟨S_, .i32⟩) (.of main_call2_v2 : StableHlo.TRef sig ⟨S1024x1, .i32⟩) (broadcastInDim S1024x1 ![] bcast_S_S1024x1),
    StableHlo.TRef.binary (.of main_v33 : StableHlo.TRef sig ⟨S1024x1, .i32⟩) (.of main_call2_v2 : StableHlo.TRef sig ⟨S1024x1, .i32⟩) (.of main_call2_v3 : StableHlo.TRef sig ⟨S1024x1, .i32⟩) addi,
    StableHlo.TRef.ternary (.of main_call2_v1 : StableHlo.TRef sig ⟨S1024x1, .i1⟩) (.of main_call2_v3 : StableHlo.TRef sig ⟨S1024x1, .i32⟩) (.of main_v33 : StableHlo.TRef sig ⟨S1024x1, .i32⟩) (.of main_call2_v4 : StableHlo.TRef sig ⟨S1024x1, .i32⟩) select,
    StableHlo.TRef.reshape (.of main_call2_v4 : StableHlo.TRef sig ⟨S1024x1, .i32⟩) (.of main_call2_v5 : StableHlo.TRef sig ⟨S1024x1x1, .i32⟩) (rfl : (.i32 : EltTy) = .i32) shapeCasts_S1024x1_S1024x1x1,
    StableHlo.TRef.nullary (.of main_call2_c_1 : StableHlo.TRef sig ⟨S1, .i32⟩) (constantI S1 32 750#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S1024x1x1, .i32⟩) (broadcastInDim S1024x1x1 ![] bcast_S_S1024x1x1),
    StableHlo.TRef.binary (.of main_call2_v5 : StableHlo.TRef sig ⟨S1024x1x1, .i32⟩) (.of main_call2_v6 : StableHlo.TRef sig ⟨S1024x1x1, .i32⟩) (.of main_call2_v7 : StableHlo.TRef sig ⟨S1024x1x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S1024x1x1, .i32⟩) (broadcastInDim S1024x1x1 ![0, 1, 2] bcast_S1x1x1_S1024x1x1_0_1_2),
    StableHlo.TRef.binary (.of main_call2_v5 : StableHlo.TRef sig ⟨S1024x1x1, .i32⟩) (.of main_call2_v9 : StableHlo.TRef sig ⟨S1024x1x1, .i32⟩) (.of main_call2_v10 : StableHlo.TRef sig ⟨S1024x1x1, .i1⟩) (cmpi .sle),
    StableHlo.TRef.binary (.of main_call2_v7 : StableHlo.TRef sig ⟨S1024x1x1, .i1⟩) (.of main_call2_v10 : StableHlo.TRef sig ⟨S1024x1x1, .i1⟩) (.of main_call2_v11 : StableHlo.TRef sig ⟨S1024x1x1, .i1⟩) andi,
    StableHlo.TRef.nullary (.of main_call2_c_3 : StableHlo.TRef sig ⟨S_, .i1⟩) (constantI S_ 1 1#1),
    StableHlo.TRef.binary (.of main_call2_v11 : StableHlo.TRef sig ⟨S1024x1x1, .i1⟩) (.of main_call2_c_3 : StableHlo.TRef sig ⟨S_, .i1⟩) (.of main_call2_v12 : StableHlo.TRef sig ⟨S1024x1, .i1⟩) (fun x v => Host.reduce IntOp.andi x v reducesTo_S1024x1x1_S1024x1_d2 h_S_),
    StableHlo.TRef.binary (.of main_v16 : StableHlo.TRef sig ⟨S1024x751, .i32⟩) (.of main_call2_v5 : StableHlo.TRef sig ⟨S1024x1x1, .i32⟩) (.of main_call2_v13 : StableHlo.TRef sig ⟨S1024x1, .i32⟩) (fun x i => Host.gather gather_S1024x751_S1024x1x1_S1024x1_n_1_0_0_1_2_11 x i),
    StableHlo.TRef.nullary (.of main_call2_c_4 : StableHlo.TRef sig ⟨S_, .i32⟩) (constantI S_ 32 2147483648#32),
    StableHlo.TRef.unary (.of main_call2_c_4 : StableHlo.TRef sig ⟨S_, .i32⟩) (.of main_call2_v14 : StableHlo.TRef sig ⟨S1024x1, .i32⟩) (broadcastInDim S1024x1 ![] bcast_S_S1024x1),
    StableHlo.TRef.ternary (.of main_call2_v12 : StableHlo.TRef sig ⟨S1024x1, .i1⟩) (.of main_call2_v13 : StableHlo.TRef sig ⟨S1024x1, .i32⟩) (.of main_call2_v14 : StableHlo.TRef sig ⟨S1024x1, .i32⟩) (.of main_v34 : StableHlo.TRef sig ⟨S1024x1, .i32⟩) select ]

/-- The arrays those lines write. -/
abbrev lines5_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_c_4, main_call2_v14, main_v34]

/-- These lines touch arrays only, -/
theorem lines5_sub : (lines5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

/-- determine what they write, -/
theorem lines5_fresh : (lines5 : List (HloOp τ sig (Elt F))).Forall fun op => op.fresh = ∅ := by
  simp only [List.Forall]; repeat' constructor

/-- and write the arrays listed. -/
theorem lines5_writes : (lines5 : List (HloOp τ sig (Elt F))).Forall fun op => op.writes ⊆ (lines5_W.map (Proc.devRef (τ := τ) .tc)).toFinset :=
  StableHlo.forall_writes_sub_of_map rfl

/-- The two results. -/
abbrev lines6 : List (HloOp τ sig (Elt F)) :=
  [ StableHlo.reshape main_v34 main_v35 (rfl : (.i32 : EltTy) = .i32) shapeCasts_S1024x1_S1024,
    StableHlo.nullary main_cst_6 (constant S_ .f32 0x00000000#32),
    StableHlo.unary main_cst_6 main_v36 (broadcastInDim S1024x100000 ![] bcast_S_S1024x100000 : (⟨S_, .f32⟩ : BufTy).Contents (Elt F) → (⟨S1024x100000, .f32⟩ : BufTy).Contents (Elt F)),
    StableHlo.nullary main_v37 (iotaInDim S1024 32 0),
    StableHlo.unary main_v37 main_v38 (broadcastInDim S1024x1 ![0] bcast_S1024_S1024x1_0 : (⟨S1024, .i32⟩ : BufTy).Contents (Elt F) → (⟨S1024x1, .i32⟩ : BufTy).Contents (Elt F)),
    StableHlo.nullary main_c (constantI S_ 32 0#32),
    StableHlo.unary main_c main_v39 (broadcastInDim S1024x1 ![] bcast_S_S1024x1 : (⟨S_, .i32⟩ : BufTy).Contents (Elt F) → (⟨S1024x1, .i32⟩ : BufTy).Contents (Elt F)),
    StableHlo.binary main_v38 main_v39 main_v40 (cmpi .slt : (⟨S1024x1, .i32⟩ : BufTy).Contents (Elt F) → (⟨S1024x1, .i32⟩ : BufTy).Contents (Elt F) → (⟨S1024x1, .i1⟩ : BufTy).Contents (Elt F)),
    StableHlo.nullary main_c_7 (constantI S_ 32 1024#32),
    StableHlo.unary main_c_7 main_v41 (broadcastInDim S1024x1 ![] bcast_S_S1024x1 : (⟨S_, .i32⟩ : BufTy).Contents (Elt F) → (⟨S1024x1, .i32⟩ : BufTy).Contents (Elt F)),
    StableHlo.binary main_v38 main_v41 main_v42 (addi : (⟨S1024x1, .i32⟩ : BufTy).Contents (Elt F) → (⟨S1024x1, .i32⟩ : BufTy).Contents (Elt F) → (⟨S1024x1, .i32⟩ : BufTy).Contents (Elt F)),
    StableHlo.ternary main_v40 main_v42 main_v38 main_v43 (select : (⟨S1024x1, .i1⟩ : BufTy).Contents (Elt F) → (⟨S1024x1, .i32⟩ : BufTy).Contents (Elt F) → (⟨S1024x1, .i32⟩ : BufTy).Contents (Elt F) → (⟨S1024x1, .i32⟩ : BufTy).Contents (Elt F)),
    StableHlo.nullary main_c_8 (constantI S_ 32 0#32),
    StableHlo.unary main_c_8 main_v44 (broadcastInDim S1024x751 ![] bcast_S_S1024x751 : (⟨S_, .i32⟩ : BufTy).Contents (Elt F) → (⟨S1024x751, .i32⟩ : BufTy).Contents (Elt F)),
    StableHlo.binary main_v16 main_v44 main_v45 (cmpi .slt : (⟨S1024x751, .i32⟩ : BufTy).Contents (Elt F) → (⟨S1024x751, .i32⟩ : BufTy).Contents (Elt F) → (⟨S1024x751, .i1⟩ : BufTy).Contents (Elt F)),
    StableHlo.nullary main_c_9 (constantI S_ 32 100000#32),
    StableHlo.unary main_c_9 main_v46 (broadcastInDim S1024x751 ![] bcast_S_S1024x751 : (⟨S_, .i32⟩ : BufTy).Contents (Elt F) → (⟨S1024x751, .i32⟩ : BufTy).Contents (Elt F)),
    StableHlo.binary main_v16 main_v46 main_v47 (addi : (⟨S1024x751, .i32⟩ : BufTy).Contents (Elt F) → (⟨S1024x751, .i32⟩ : BufTy).Contents (Elt F) → (⟨S1024x751, .i32⟩ : BufTy).Contents (Elt F)),
    StableHlo.ternary main_v45 main_v47 main_v16 main_v48 (select : (⟨S1024x751, .i1⟩ : BufTy).Contents (Elt F) → (⟨S1024x751, .i32⟩ : BufTy).Contents (Elt F) → (⟨S1024x751, .i32⟩ : BufTy).Contents (Elt F) → (⟨S1024x751, .i32⟩ : BufTy).Contents (Elt F)),
    StableHlo.unary main_v43 main_v49 (broadcastInDim S1024x751 ![0, 1] bcast_S1024x1_S1024x751_0_1 : (⟨S1024x1, .i32⟩ : BufTy).Contents (Elt F) → (⟨S1024x751, .i32⟩ : BufTy).Contents (Elt F)),
    StableHlo.unary main_v49 main_v50 (broadcastInDim S1024x751x1 ![0, 1] bcast_S1024x751_S1024x751x1_0_1 : (⟨S1024x751, .i32⟩ : BufTy).Contents (Elt F) → (⟨S1024x751x1, .i32⟩ : BufTy).Contents (Elt F)),
    StableHlo.unary main_v48 main_v51 (broadcastInDim S1024x751x1 ![0, 1] bcast_S1024x751_S1024x751x1_0_1 : (⟨S1024x751, .i32⟩ : BufTy).Contents (Elt F) → (⟨S1024x751x1, .i32⟩ : BufTy).Contents (Elt F)),
    StableHlo.binary main_v50 main_v51 main_v52 ((fun a b => concatenate S1024x751x2 2 [⟨S1024x751x1, a⟩, ⟨S1024x751x1, b⟩] concatenates_S1024x751x1_S1024x751x1_S1024x751x2_d2) : (⟨S1024x751x1, .i32⟩ : BufTy).Contents (Elt F) → (⟨S1024x751x1, .i32⟩ : BufTy).Contents (Elt F) → (⟨S1024x751x2, .i32⟩ : BufTy).Contents (Elt F)),
    StableHlo.ternary main_v36 main_v52 main_v31 main_v53 ((fun x i u => Host.scatter scatter_S1024x100000_S1024x751x2_S1024x751_n_01_01_2 (fun _ b => b) x i u) : (⟨S1024x100000, .f32⟩ : BufTy).Contents (Elt F) → (⟨S1024x751x2, .i32⟩ : BufTy).Contents (Elt F) → (⟨S1024x751, .f32⟩ : BufTy).Contents (Elt F) → (⟨S1024x100000, .f32⟩ : BufTy).Contents (Elt F)) ]

/-- The arrays those lines write. -/
abbrev lines6_W : List (Ref sig .tc) := [main_v35, main_cst_6, main_v36, main_v37, main_v38, main_c, main_v39, main_v40, main_c_7, main_v41, main_v42, main_v43, main_c_8, main_v44, main_v45, main_c_9, main_v46, main_v47, main_v48, main_v49, main_v50, main_v51, main_v52, main_v53]

/-- These lines touch arrays only, -/
theorem lines6_sub : (lines6 : List (HloOp τ sig (Elt F))).Forall fun op => op.bufs ⊆ StableHlo.tcRefs τ sig :=
  ⟨StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.ternary_bufs_sub ..⟩

/-- determine what they write, -/
theorem lines6_fresh : (lines6 : List (HloOp τ sig (Elt F))).Forall fun op => op.fresh = ∅ := by
  simp only [List.Forall]; repeat' constructor

/-- and write the arrays listed. -/
theorem lines6_writes : (lines6 : List (HloOp τ sig (Elt F))).Forall fun op => op.writes ⊆ (lines6_W.map (Proc.devRef (τ := τ) .tc)).toFinset :=
  StableHlo.forall_writes_sub_of_map rfl

/-- The whole program's lines. -/
def lines : List (HloOp τ sig (Elt F)) := lines0 ++ (lines1 ++ (lines2 ++ (lines3 ++ (lines4 ++ (lines5 ++ lines6)))))

set_option maxRecDepth 100000 in
/-- The program is that straight line. -/
theorem main_eq (c : Dev nD) : main (F := F) c = StableHlo.seq lines := by chain_rfl

/-- Nothing is scoped on this program's signature. -/
theorem scopedRefs_eq : (Finset.univ.filter fun b : Ref sig .tc => b.isScoped) = ∅ := by decide
/-- Nor is any semaphore. -/
theorem scopedSems_eq : (Finset.univ.filter fun sm : SemLoc sig => sm.isScoped .tc) = ∅ := by decide

/-- Every line touches arrays only, -/
theorem lines_sub : (lines : List (HloOp τ sig (Elt F))).Forall fun op => op.bufs ⊆ StableHlo.tcRefs τ sig := by
  unfold lines
  simp only [List.forall_append]
  exact ⟨lines0_sub, lines1_sub, lines2_sub, lines3_sub, lines4_sub, lines5_sub, lines6_sub⟩

/-- and determines what it writes. -/
theorem lines_fresh : (lines : List (HloOp τ sig (Elt F))).Forall fun op => op.fresh = ∅ := by
  unfold lines
  simp only [List.forall_append]
  exact ⟨lines0_fresh, lines1_fresh, lines2_fresh, lines3_fresh, lines4_fresh, lines5_fresh, lines6_fresh⟩

/-- One stretch after another. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- What the first stretch leaves: the rows drawn. -/
theorem at0 (V : Valuation τ sig (Elt F)) :
    StableHlo.after lines0 V (main_v16 : DevRef τ sig)
      = Lines.drawn (Lines.scores (V (main_arg0 : DevRef τ sig)) (V (main_arg1 : DevRef τ sig))) (V (main_arg2 : DevRef τ sig)) := by
  after_results
  rfl

/-- The second: the drawn rows themselves. -/
theorem at1 (V : Valuation τ sig (Elt F)) :
    StableHlo.after lines1 V (main_v17 : DevRef τ sig) = Lines.rows (V (main_arg1 : DevRef τ sig)) (V (main_v16 : DevRef τ sig)) := by
  after_results
  simp only [StableHlo.TRef.ofBuf_toBuf]
  simp only [StableHlo.TRef.ofBuf, StableHlo.TRef.toBuf, cast_eq]
  unfold Lines.rows Lines.inTable Lines.wrapped
  rfl

/-- The third: the probabilities, from the drawn rows' products with the queries. -/
theorem at2 (V : Valuation τ sig (Elt F)) :
    StableHlo.after lines2 V (main_v31 : DevRef τ sig)
      = Lines.probs (Host.dotGeneral dot_S1024x751x128_S1024x128_S1024x751_2_1_1_n_0_0 none (V (main_v17 : DevRef τ sig)) (V (main_arg0 : DevRef τ sig))) := by
  after_results
  rfl

/-- The fourth: the place of each row's largest probability. -/
theorem at3 (V : Valuation τ sig (Elt F)) :
    StableHlo.after lines3 V (main_v32 : DevRef τ sig) = Lines.best (V (main_v31 : DevRef τ sig)) := by
  after_results
  rfl

/-- The fifth: the same as a column. -/
theorem at4 (V : Valuation τ sig (Elt F)) :
    StableHlo.after lines4 V (main_v33 : DevRef τ sig) = broadcastInDim S1024x1 ![0] bcast_S1024_S1024x1_0 (V (main_v32 : DevRef τ sig)) := by
  after_results

/-- The sixth: the row number at that place. -/
theorem at5 (V : Valuation τ sig (Elt F)) :
    StableHlo.after lines5 V (main_v34 : DevRef τ sig) = Lines.named (F := F) (V (main_v16 : DevRef τ sig)) (V (main_v33 : DevRef τ sig)) := by
  after_results
  rfl

/-- The last stretch leaves the top candidates, -/
theorem at6_row (V : Valuation τ sig (Elt F)) :
    StableHlo.after lines6 V (main_v35 : DevRef τ sig) = shapeCast S1024 (V (main_v34 : DevRef τ sig)) shapeCasts_S1024x1_S1024 := by
  after_results
  rfl

/-- and the full rows of probabilities. -/
theorem at6_full (V : Valuation τ sig (Elt F)) :
    StableHlo.after lines6 V (main_v53 : DevRef τ sig) = Lines.spread (F := F) (V (main_v16 : DevRef τ sig)) (V (main_v31 : DevRef τ sig)) := by
  after_results
  rfl

/-- The rows the reference draws, from the arguments, -/
abbrev idxOf (q : S1024x128.Idx → Elt F .f32) (M : S100000x128.Idx → Elt F .f32) (real : S1024.Idx → Elt F .i32) :
    S1024x751.Idx → Elt F .i32 := Lines.drawn (Lines.scores q M) real

/-- and their probabilities. -/
abbrev probsOf (q : S1024x128.Idx → Elt F .f32) (M : S100000x128.Idx → Elt F .f32) (real : S1024.Idx → Elt F .i32) :
    S1024x751.Idx → Elt F .f32 := Lines.probs (Lines.products q M (idxOf q M real))

/-- After the first three stretches: the rows drawn, -/
theorem idx_at (V : Valuation τ sig (Elt F)) :
    StableHlo.after lines2 (StableHlo.after lines1 (StableHlo.after lines0 V)) (main_v16 : DevRef τ sig)
      = idxOf (V (main_arg0 : DevRef τ sig)) (V (main_arg1 : DevRef τ sig)) (V (main_arg2 : DevRef τ sig)) := by
  rw [StableHlo.after_of_writes_sub (r := main_v16) lines2 _ lines2_writes (by decide +kernel), StableHlo.after_of_writes_sub (r := main_v16) lines1 _ lines1_writes (by decide +kernel), at0]

/-- and the probabilities. -/
theorem probs_at (V : Valuation τ sig (Elt F)) :
    StableHlo.after lines2 (StableHlo.after lines1 (StableHlo.after lines0 V)) (main_v31 : DevRef τ sig)
      = probsOf (V (main_arg0 : DevRef τ sig)) (V (main_arg1 : DevRef τ sig)) (V (main_arg2 : DevRef τ sig)) := by
  rw [at2, at1, StableHlo.after_of_writes_sub (r := main_arg0) lines1 _ lines1_writes (by decide +kernel), at0, StableHlo.after_of_writes_sub (r := main_arg0) lines0 _ lines0_writes (by decide +kernel), StableHlo.after_of_writes_sub (r := main_arg1) lines0 _ lines0_writes (by decide +kernel)]
  rfl

/-- After all stretches: the top candidates, from what the first stretch starts with, -/
theorem row_at (V : Valuation τ sig (Elt F)) :
    StableHlo.after lines V (main_v35 : DevRef τ sig)
      = Lines.target (idxOf (V (main_arg0 : DevRef τ sig)) (V (main_arg1 : DevRef τ sig)) (V (main_arg2 : DevRef τ sig)))
          (probsOf (V (main_arg0 : DevRef τ sig)) (V (main_arg1 : DevRef τ sig)) (V (main_arg2 : DevRef τ sig))) := by
  unfold lines
  simp only [after_append]
  rw [at6_row, at5, at4, at3, StableHlo.after_of_writes_sub (r := main_v16) lines4 _ lines4_writes (by decide +kernel), StableHlo.after_of_writes_sub (r := main_v16) lines3 _ lines3_writes (by decide +kernel), idx_at, probs_at]
  rfl

/-- and the full rows of probabilities. -/
theorem full_at (V : Valuation τ sig (Elt F)) :
    StableHlo.after lines V (main_v53 : DevRef τ sig)
      = Lines.spread (F := F) (idxOf (V (main_arg0 : DevRef τ sig)) (V (main_arg1 : DevRef τ sig)) (V (main_arg2 : DevRef τ sig)))
          (probsOf (V (main_arg0 : DevRef τ sig)) (V (main_arg1 : DevRef τ sig)) (V (main_arg2 : DevRef τ sig))) := by
  unfold lines
  simp only [after_append]
  rw [at6_full, StableHlo.after_of_writes_sub (r := main_v16) lines5 _ lines5_writes (by decide +kernel), StableHlo.after_of_writes_sub (r := main_v16) lines4 _ lines4_writes (by decide +kernel), StableHlo.after_of_writes_sub (r := main_v16) lines3 _ lines3_writes (by decide +kernel), StableHlo.after_of_writes_sub (r := main_v31) lines5 _ lines5_writes (by decide +kernel), StableHlo.after_of_writes_sub (r := main_v31) lines4 _ lines4_writes (by decide +kernel), StableHlo.after_of_writes_sub (r := main_v31) lines3 _ lines3_writes (by decide +kernel), idx_at, probs_at]

/-- No line writes an argument. -/
theorem kept (V : Valuation τ sig (Elt F)) (b : Ref sig .tc)
    (hb : b ∉ lines0_W ++ lines1_W ++ lines2_W ++ lines3_W ++ lines4_W ++ lines5_W ++ lines6_W) :
    StableHlo.after lines V (Proc.devRef .tc b) = V (Proc.devRef .tc b) := by
  simp only [List.mem_append, not_or] at hb
  obtain ⟨⟨⟨⟨⟨⟨h0, h1⟩, h2⟩, h3⟩, h4⟩, h5⟩, h6⟩ := hb
  unfold lines
  simp only [after_append]
  rw [StableHlo.after_of_writes_sub lines6 _ lines6_writes h6, StableHlo.after_of_writes_sub lines5 _ lines5_writes h5,
    StableHlo.after_of_writes_sub lines4 _ lines4_writes h4, StableHlo.after_of_writes_sub lines3 _ lines3_writes h3,
    StableHlo.after_of_writes_sub lines2 _ lines2_writes h2, StableHlo.after_of_writes_sub lines1 _ lines1_writes h1,
    StableHlo.after_of_writes_sub lines0 _ lines0_writes h0]

/-- The reference's run: its two results from the arguments, which stay, and no counter off zero. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v53) = Lines.spread (F := F)
          (idxOf (m ((c.tc : Thread nD τ).loc main_arg0)) (m ((c.tc : Thread nD τ).loc main_arg1)) (m ((c.tc : Thread nD τ).loc main_arg2)))
          (probsOf (m ((c.tc : Thread nD τ).loc main_arg0)) (m ((c.tc : Thread nD τ).loc main_arg1)) (m ((c.tc : Thread nD τ).loc main_arg2)))
      ∧ r.2.mem ((c.tc : Thread nD τ).loc main_v35) = Lines.target
          (idxOf (m ((c.tc : Thread nD τ).loc main_arg0)) (m ((c.tc : Thread nD τ).loc main_arg1)) (m ((c.tc : Thread nD τ).loc main_arg2)))
          (probsOf (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h c main_v53).trans (full_at _), (h c main_v35).trans (row_at _),
      (h c main_arg0).trans (kept _ main_arg0 (by decide +kernel)), (h c main_arg1).trans (kept _ main_arg1 (by decide +kernel)),
      (h c main_arg2).trans (kept _ main_arg2 (by decide +kernel))⟩, sem_eq_zero_of_no_sems (by decide) r.2⟩)
    (StableHlo.run_seq scopedRefs_eq scopedSems_eq defs main (fun _ => lines) main_eq (fun _ => lines_sub) m ρ
      (fun _ => List.forall_iff_forall_mem.mp lines_fresh))

end Cert.RefProof

end
-- ==== Proof.Rows.lean ====
/- Which rows are drawn: the order of a row of scores decides them, and each is a row of the table. -/
module

public import proofs.«01_k».proof.Proof.Lines
public import Idealize.ShloMosaic.Lib.Pointwise
public import Idealize.ShloMosaic.Lib.Pipeline.Value
public import Idealize.ShloMosaic.Lib.ReduceAll
public import Idealize.ShloMosaic.Lib.StableHlo.Predicate

@[expose] public section

noncomputable section

namespace Cert.Rows

open Cert.KernelIdeal Cert.KernelIdeal.Gen
open Idealize.ShloMosaic

/-- The places of the largest elements depend on the comparisons within each line along the sorted axis alone. -/
theorem topK_places {α : Type} {s t : Shape} (d : Nat) (gt : α → α → BitVec 1) (x y : s.Idx → α) (h : s.Slices (fun _ => 0) t)
    (hxy : ∀ (hd : d < s.rank) (j : s.Idx) (k k' : Fin (s.size ⟨d, hd⟩)),
      gt (x (j.along ⟨d, hd⟩ k)) (x (j.along ⟨d, hd⟩ k')) = gt (y (j.along ⟨d, hd⟩ k)) (y (j.along ⟨d, hd⟩ k'))) :
    (Host.topK t d gt x h).2 = (Host.topK t d gt y h).2 := by
  unfold Host.topK Host.sort2
  by_cases hd : d < s.rank
  · simp only [dif_pos hd, hxy hd]
  · simp only [dif_neg hd]

/-- A place is a position along the sorted axis. -/
theorem topK_place_lt {α : Type} {s t : Shape} (d : Nat) (gt : α → α → BitVec 1) (x : s.Idx → α) (h : s.Slices (fun _ => 0) t)
    (hd : d < s.rank) (j : t.Idx) : ∃ n : Fin (s.size ⟨d, hd⟩), (Host.topK t d gt x h).2 j = BitVec.ofNat 32 n.val := by
  unfold Host.topK Host.sort2
  simp only [dif_pos hd]
  unfold extractStridedSlice
  exact ⟨_, rfl⟩

/-- Words that each name a row of the table. -/
def Named {ι : Type} (w : ι → BitVec 32) : Prop := ∀ i, ∃ n : Fin 100000, w i = BitVec.ofNat 32 n.val

variable {F : FTy → Type} [FloatOps F]

/-- Every drawn row is a row of the table when the real rows are. -/
theorem drawn_named (s : S1024x100000.Idx → Elt F .f32) (real : S1024.Idx → Elt F .i32) (h : Named real) :
    Named (Lines.drawn s real) := by
  intro j
  unfold Lines.drawn
  by_cases hj : (j 1).val < 750
  · rw [concatenate_pair_apply_left (t := S1024x751) (s₁ := S1024x750) (s₂ := S1024x1) 1 _ _ _ j rfl (ix2 (j 0) ⟨(j 1).val, hj⟩)
      (fun b => by match b with | ⟨0, _⟩ => rfl | ⟨1, _⟩ => rfl)]
    exact topK_place_lt 1 _ s _ (by decide) _
  · have h1 : (j 1).val < 751 := (j 1).isLt
    rw [concatenate_pair_apply_right (t := S1024x751) (s₁ := S1024x750) (s₂ := S1024x1) 1 _ _ _ j rfl rfl (ix2 (j 0) ⟨0, by decide⟩)
      (fun b hb => by match b with | ⟨0, _⟩ => rfl | ⟨1, _⟩ => exact absurd rfl hb)
      (show 0 + 750 = (j 1).val by omega)]
    exact h _

/-- A word naming a row is not negative. -/
theorem named_nonneg (n : Fin 100000) : IntOp.cmpi .sge (BitVec.ofNat 32 n.val) 0#32 = 1#1 := by
  have := n.isLt
  rw [StableHlo.Predicate.sge_iff_toNat] <;> simp <;> omega

/-- A word naming a row is at most the table's last row. -/
theorem named_le (n : Fin 100000) : IntOp.cmpi .sle (BitVec.ofNat 32 n.val) 99999#32 = 1#1 := by
  have := n.isLt
  rw [StableHlo.Predicate.sle_iff_toNat] <;> simp <;> omega

/-- A word naming a row is not below zero. -/
theorem named_not_neg (n : Fin 100000) : IntOp.cmpi .slt (BitVec.ofNat 32 n.val) 0#32 = 0#1 := by
  have := n.isLt
  have h : ¬ IntOp.cmpi .slt (BitVec.ofNat 32 n.val) 0#32 = 1#1 := by
    rw [StableHlo.Predicate.slt_iff_toNat] <;> simp <;> omega
  exact (BitVec.eq_zero_or_eq_one _).resolve_right h

/-- Row numbers that name rows stay as they are. -/
theorem wrapped_named (idx : S1024x751.Idx → Elt F .i32) (h : Named idx) : Lines.wrapped (F := F) idx = idx := by
  funext j
  obtain ⟨n, hn⟩ := h j
  show Scalar.select (IntOp.cmpi .slt (idx j) 0#32) _ (idx j) = idx j
  rw [hn, named_not_neg]
  rfl

/-- Row numbers that name rows lie in the table. -/
theorem inTable_named (w : S1024x751x1.Idx → Elt F .i32) (h : Named w) : Lines.inTable (F := F) w = fun _ => 1#1 := by
  funext j
  refine Host.reduce_andi_one _ _ _ _ _ rfl fun i => ?_
  obtain ⟨n, hn⟩ := h i
  show IntOp.andi (IntOp.cmpi .sge (w i) 0#32) (IntOp.cmpi .sle (w i) 99999#32) = 1#1
  rw [hn, named_nonneg, named_le]
  rfl

end Cert.Rows

end
-- ==== Proof.Fetch.lean ====
/- The drawn rows' inner products: read out of the full array of inner products, or formed from the rows fetched, the
   same where the row numbers name rows of the table. -/
module

public import proofs.«01_k».proof.Proof.Rows
public import proofs.«01_k».proof.Proof.IdealValue

@[expose] public section

noncomputable section

namespace Cert.Fetch

open Cert.KernelIdeal Cert.KernelIdeal.Gen Cert.Rows
open Idealize.ShloMosaic

variable {F : FTy → Type} [FloatOps F]

/-- The number a word naming a row stands for, clamped to the table, is that row. -/
theorem clamped (n : Fin 100000) : min (BitVec.ofNat 32 n.val).toInt.toNat (100000 - 1) = n.val := by
  have := n.isLt
  rw [StableHlo.Predicate.toInt_ofNat_small _ (by omega)]
  omega

/-- Reading one element of each query's line at its row number. -/
theorem gather_line (x : S1024x100000.Idx → Elt F .f32) (w : S1024x751x1.Idx → Elt F .i32) (r : Fin 1024) (k : Fin 751)
    (n : Fin 100000) (h : w (ix3 r k (0 : Fin 1)) = BitVec.ofNat 32 n.val) :
    Host.gather gather_S1024x100000_S1024x751x1_S1024x751_n_1_0_0_1_2_11 x w (ix2 r k) = x (ix2 r n) := by
  unfold Host.gather
  congr 1
  funext a
  refine Fin.ext ?_
  let d := gather_S1024x100000_S1024x751x1_S1024x751_n_1_0_0_1_2_11
  let y : S1024x751.Idx := ix2 r k
  show d.start y w a + d.batchCoord y a + d.offCoord y a = _
  rcases (show a = 0 ∨ a = 1 by match a with | ⟨0, _⟩ => exact Or.inl rfl | ⟨1, _⟩ => exact Or.inr rfl) with rfl | rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have hs : d.siIdx y ⟨0, by decide⟩ = ix3 r k (0 : Fin 1) := by
      funext b; refine Fin.ext ?_
      match b with
      | ⟨0, _⟩ => rfl
      | ⟨1, _⟩ => rfl
      | ⟨2, _⟩ => rfl
    refine Eq.trans ?_ (clamped n)
    rw [← h, ← hs]
    rfl

/-- Reading one whole row of the table at each row number. -/
theorem gather_row (x : S100000x128.Idx → Elt F .f32) (w : S1024x751x1.Idx → Elt F .i32) (r : Fin 1024) (k : Fin 751)
    (e : Fin 128) (n : Fin 100000) (h : w (ix3 r k (0 : Fin 1)) = BitVec.ofNat 32 n.val) :
    Host.gather Cert.ReferenceIdeal.gather_S100000x128_S1024x751x1_S1024x751x128_2_0_n_n_0_2_1128 x w (ix3 r k e)
      = x (ix2 n e) := by
  unfold Host.gather
  congr 1
  funext a
  refine Fin.ext ?_
  let d := Cert.ReferenceIdeal.gather_S100000x128_S1024x751x1_S1024x751x128_2_0_n_n_0_2_1128
  let y : Cert.ReferenceIdeal.S1024x751x128.Idx := ix3 r k e
  show d.start y w a + d.batchCoord y a + d.offCoord y a = _
  rcases (show a = 0 ∨ a = 1 by match a with | ⟨0, _⟩ => exact Or.inl rfl | ⟨1, _⟩ => exact Or.inr rfl) with rfl | rfl
  · rw [GatherDims.batchCoord_eq_zero _ _ _ (by decide), GatherDims.offCoord_eq_zero _ _ _ (by decide)]
    simp only [Nat.add_zero]
    unfold GatherDims.start
    rw [dif_pos (by decide)]
    have hs : d.siIdx y ⟨0, by decide⟩ = ix3 r k (0 : Fin 1) := by
      funext b; refine Fin.ext ?_
      match b with
      | ⟨0, _⟩ => rfl
      | ⟨1, _⟩ => rfl
      | ⟨2, _⟩ => rfl
    refine Eq.trans ?_ (clamped n)
    rw [← h, ← hs]
    rfl
  · rw [GatherDims.batchCoord_eq_zero _ _ _ (by decide)]
    unfold GatherDims.start
    rw [dif_neg (by decide)]
    unfold GatherDims.offCoord
    rw [dif_pos (by decide)]
    show 0 + 0 + e.val = e.val
    omega

/-- The kernel's fetched inner product is the one at the drawn row. -/
theorem fetched_at (ip : S1024x100000.Idx → Elt F .f32) (idx : S1024x751.Idx → Elt F .i32) (hi : Named idx)
    (r : Fin 1024) (k : Fin 751) (n : Fin 100000) (h : idx (ix2 r k) = BitVec.ofNat 32 n.val) :
    Lines.fetched ip idx (ix2 r k) = ip (ix2 r n) := by
  have hw : ∀ j, ∃ i, shapeCast S1024x751x1 idx shapeCasts_S1024x751_S1024x751x1 j = idx i := fun j => ⟨_, rfl⟩
  unfold Lines.fetched
  rw [wrapped_named idx hi, inTable_named _ fun j => by obtain ⟨i, e⟩ := hw j; rw [e]; exact hi i]
  refine gather_line ip _ r k n ?_
  rw [← h]
  pointwise

/-- The reference's fetched row is the drawn row. -/
theorem rows_at (m : S100000x128.Idx → Elt F .f32) (idx : S1024x751.Idx → Elt F .i32) (hi : Named idx)
    (r : Fin 1024) (k : Fin 751) (e : Fin 128) (n : Fin 100000) (h : idx (ix2 r k) = BitVec.ofNat 32 n.val) :
    Lines.rows m idx (ix3 r k e) = m (ix2 n e) := by
  unfold Lines.rows
  rw [wrapped_named idx hi, inTable_named (broadcastInDim S1024x751x1 ![0, 1] bcast_S1024x751_S1024x751x1_0_1 idx) fun j => hi _]
  refine gather_row m _ r k e n ?_
  rw [← h]
  pointwise

/-- The reference's inner product is the one of the drawn row with the query. -/
theorem products_at (q : S1024x128.Idx → Elt Ideal .f32) (m : S100000x128.Idx → Elt Ideal .f32) (idx : S1024x751.Idx → Elt Ideal .i32)
    (r : Fin 1024) (k : Fin 751) :
    Lines.products q m idx (ix2 r k) = ∑ e : Fin 128, (Lines.rows m idx (ix3 r k e) : EReal) * q (ix2 r e) := by
  pointwise [Lines.products]

/-- Where the row numbers name rows, the two programs' inner products of the drawn rows agree. -/
theorem fetched_eq_products (q : S1024x128.Idx → Elt Ideal .f32) (m : S100000x128.Idx → Elt Ideal .f32)
    (idx : S1024x751.Idx → Elt Ideal .i32) (hi : Named idx) :
    Lines.fetched (F := Ideal) (Cert.IdealProof.ipAll q m) idx = Lines.products (F := Ideal) q m idx := by
  funext j
  obtain ⟨r, k, rfl⟩ : ∃ (r : Fin 1024) (k : Fin 751), j = ix2 r k := ⟨j 0, j 1, eq_ix2 j⟩
  obtain ⟨n, h⟩ := hi (ix2 r k)
  rw [fetched_at (F := Ideal) _ idx hi _ _ n h, products_at]
  show ∑ d : Fin 128, (q (ix2 r d) : EReal) * m (ix2 n d) = _
  refine Finset.sum_congr rfl fun e _ => ?_
  rw [rows_at (F := Ideal) m idx hi _ _ e n h]
  exact mul_comm _ _

end Cert.Fetch

end
-- ==== Proof.Scores.lean ====
/- The scores of the two programs order each query's rows alike: at finite entries they differ by the query's own
   squared length, the same along the whole line. -/
module

public import proofs.«01_k».proof.Proof.Rows
public import proofs.«01_k».proof.Proof.IdealValue

@[expose] public section

noncomputable section

namespace Cert.Scores

open Cert.KernelIdeal Cert.KernelIdeal.Gen Cert.IdealProof
open Idealize.ShloMosaic

/-- Entries that are all real numbers. -/
def Finite {ι : Type} (x : ι → EReal) : Prop := ∀ i, ∃ a : ℝ, x i = (a : EReal)

/-- A sum of real numbers is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The factor in the scores is a real number. -/
theorem two_real : ∃ c : ℝ, (Ideal.ofBits .f32 0x40000000#32 : EReal) = (c : EReal) := by
  exact ⟨_, rfl⟩

/-- An entry of the reference's scores. -/
theorem scores_at (q : S1024x128.Idx → Elt Ideal .f32) (M : S100000x128.Idx → Elt Ideal .f32) (r : Fin 1024) (j : Fin 100000) :
    Lines.scores q M (ix2 r j) = -((∑ d : Fin 128, (q (ix2 r d) : EReal) * q (ix2 r d))
      - (Ideal.ofBits .f32 0x40000000#32 : EReal) * (∑ d : Fin 128, (q (ix2 r d) : EReal) * M (ix2 j d))
      + ∑ d : Fin 128, (M (ix2 j d) : EReal) * M (ix2 j d)) := by
  pointwise [Lines.scores]

/-- At real entries both scores are real, and the reference's are the kernel's less a number of the query's own. -/
theorem shift (q : S1024x128.Idx → Elt Ideal .f32) (M : S100000x128.Idx → Elt Ideal .f32) (hq : Finite q) (hM : Finite M) :
    ∃ (a : Fin 1024 → ℝ) (s : Fin 1024 → Fin 100000 → ℝ), (∀ r j, scoreAll q M (ix2 r j) = ((s r j : ℝ) : EReal))
      ∧ ∀ r j, Lines.scores q M (ix2 r j) = ((s r j - a r : ℝ) : EReal) := by
  choose x hx using hq
  choose y hy using hM
  obtain ⟨c, hc⟩ := two_real
  refine ⟨fun r => ∑ d : Fin 128, x (ix2 r d) * x (ix2 r d),
    fun r j => c * (∑ d : Fin 128, x (ix2 r d) * y (ix2 j d)) - ∑ d : Fin 128, y (ix2 j d) * y (ix2 j d),
    fun r j => ?_, fun r j => ?_⟩
  · show (Ideal.ofBits .f32 0x40000000#32 : EReal) * (∑ d : Fin 128, (q (ix2 r d) : EReal) * M (ix2 j d))
      - ∑ d : Fin 128, (M (ix2 j d) : EReal) * M (ix2 j d) = _
    simp only [hx, hy, hc, ← EReal.coe_mul, coe_sum, ← EReal.coe_sub]
  · rw [scores_at]
    simp only [hx, hy, hc, ← EReal.coe_mul, coe_sum, ← EReal.coe_sub, ← EReal.coe_add, ← EReal.coe_neg]
    congr 1
    ring

/-- The rows drawn by the kernel's scores are those drawn by the reference's. -/
theorem drawn_eq (q : S1024x128.Idx → Elt Ideal .f32) (M : S100000x128.Idx → Elt Ideal .f32) (real : S1024.Idx → Elt Ideal .i32)
    (hq : Finite q) (hM : Finite M) :
    Lines.drawn (F := Ideal) (scoreAll q M) real = Lines.drawn (F := Ideal) (Lines.scores q M) real := by
  obtain ⟨a, s, h1, h2⟩ := shift q M hq hM
  unfold Lines.drawn
  rw [Rows.topK_places (x := scoreAll q M) (y := Lines.scores q M)]
  intro hd j k k'
  have e (k : Fin 100000) : (j.along ⟨1, hd⟩ k : S1024x100000.Idx) = ix2 (j 0) k := funext fun b => by
    match b with
    | ⟨0, _⟩ => rfl
    | ⟨1, _⟩ => rfl
  have f1 (k : Fin 100000) := (congrArg (scoreAll q M) (e k)).trans (h1 (j 0) k)
  have f2 (k : Fin 100000) := (congrArg (Lines.scores q M) (e k)).trans (h2 (j 0) k)
  refine (congrArg₂ (FloatOps.cmpfTotal (F := Ideal) (φ := .f32) .gt) (f1 k) (f1 k')).trans
    (Eq.trans ?_ (congrArg₂ (FloatOps.cmpfTotal (F := Ideal) (φ := .f32) .gt) (f2 k) (f2 k')).symm)
  exact congrArg BitVec.ofBool (decide_eq_decide.2 (by rw [EReal.coe_lt_coe_iff, EReal.coe_lt_coe_iff, sub_lt_sub_iff_right]))

end Cert.Scores

end
-- ==== Proof.Drawn.lean ====
/- What the inputs' condition says of them: the queries and the table are real numbers, and each real row is a row of
   the table. -/
module

public import proofs.«01_k».proof.Proof.Scores
public import proofs.«01_k».proof.Pre_inputs_as_drawn
public import Idealize.ShloMosaic.Lib.ReduceAll

@[expose] public section

noncomputable section

namespace Cert.Drawn

open Idealize.ShloMosaic Cert.Pre_inputs_as_drawn

/-- The shape conditions the inputs' condition states. -/
theorem facts : Cert.Pre_inputs_as_drawn.Facts where
  bcast_S_S1024x128 := by decide
  bcast_S_S100000x128 := by decide
  bcast_S_S1024 := by decide
  reducesTo_S1024x128_S_d0_1 := by decide
  h_S_ := by decide
  reducesTo_S100000x128_S_d0_1 := by decide
  reducesTo_S1024_S_d0 := by decide

instance : Subsingleton S_.Idx := ⟨fun a b => funext fun i => i.elim0⟩

/-- A number whose absolute value is below infinity is real. -/
theorem real_of_abs (x : EReal) (h : Ideal.cmp .olt (max x (-x)) (Ideal.ofBits .f32 0x7F800000#32) = 1#1) :
    ∃ a : ℝ, x = (a : EReal) := by
  have ht : (Ideal.ofBits .f32 0x7F800000#32 : EReal) = ⊤ := rfl
  rw [ht] at h
  have h' : max x (-x) < ⊤ := of_decide_eq_true ((StableHlo.Predicate.ofBool_eq_one_iff _).1 h)
  induction x with
  | bot => exact absurd h' (by simp)
  | top => exact absurd h' (by simp)
  | coe a => exact ⟨a, rfl⟩

/-- A word at least 0 and below 100000 names a row. -/
theorem named_of (w : BitVec 32) (h0 : IntOp.cmpi .sge w 0#32 = 1#1) (h1 : IntOp.cmpi .slt w 100000#32 = 1#1) :
    ∃ n : Fin 100000, w = BitVec.ofNat 32 n.val := by
  have a0 : BitVec.sle 0#32 w = true := (StableHlo.Predicate.ofBool_eq_one_iff _).1 h0
  have a1 : BitVec.slt w 100000#32 = true := (StableHlo.Predicate.ofBool_eq_one_iff _).1 h1
  have b0 : (0 : Int) ≤ w.toInt := by simpa [BitVec.sle] using a0
  have b1 : w.toInt < 100000 := by simpa [BitVec.slt] using a1
  have hw := w.isLt
  have hn : w.toNat < 100000 := by
    rw [BitVec.toInt_eq_toNat_cond] at b0 b1
    split at b0 <;> omega
  exact ⟨⟨w.toNat, hn⟩, by simp⟩

/-- The condition read back. -/
theorem read [Facts] (q : FVec Ideal S1024x128 .f32) (M : FVec Ideal S100000x128 .f32) (real : IVec S1024 32)
    (h : Cert.Pre_inputs_as_drawn.fn (F := Ideal) q M real = fun _ => 1#1) :
    Scores.Finite q ∧ Scores.Finite M ∧ Rows.Named real := by
  have h0 := congrFun h (fun a => a.elim0)
  unfold Cert.Pre_inputs_as_drawn.fn at h0
  obtain ⟨h1, hr⟩ := IntOp.andi_eq_one.1 h0
  obtain ⟨hq, hM⟩ := IntOp.andi_eq_one.1 h1
  refine ⟨fun i => real_of_abs _ (Host.reduce_andi_all _ _ _ _ _ hq i), fun i => real_of_abs _ (Host.reduce_andi_all _ _ _ _ _ hM i),
    fun i => ?_⟩
  obtain ⟨a, b⟩ := IntOp.andi_eq_one.1 (Host.reduce_andi_all _ _ _ _ _ hr i)
  exact named_of _ a b

end Cert.Drawn

end
-- ==== Proof.lean ====
module

public import proofs.«01_k».proof.Defs
public import proofs.«01_k».proof.Proof.KernelFrame
public import proofs.«01_k».proof.Proof.IdealRun
public import proofs.«01_k».proof.Proof.RefRun
public import proofs.«01_k».proof.Proof.Fetch
public import proofs.«01_k».proof.Proof.Scores
public import proofs.«01_k».proof.Proof.Drawn
public import Idealize.ShloMosaic.Adequacy
public import Idealize.ShloMosaic.Init

@[expose] public section

noncomputable section

namespace Cert.Proof

open Idealize.ShloMosaic Idealize.SL.Sem

/-- At real entries the kernel and the reference draw the same rows. -/
theorem idx_eq (q : Cert.KernelIdeal.S1024x128.Idx → Elt Ideal .f32) (M : Cert.KernelIdeal.S100000x128.Idx → Elt Ideal .f32)
    (real : Cert.KernelIdeal.S1024.Idx → Elt Ideal .i32) (hq : Scores.Finite q) (hM : Scores.Finite M) :
    RefProof.idxOf (F := Ideal) q M real = IdealProof.idxOf q M real :=
  (Scores.drawn_eq q M real hq hM).symm

/-- With real rows of the table too, they give the drawn rows the same probabilities. -/
theorem probs_eq (q : Cert.KernelIdeal.S1024x128.Idx → Elt Ideal .f32) (M : Cert.KernelIdeal.S100000x128.Idx → Elt Ideal .f32)
    (real : Cert.KernelIdeal.S1024.Idx → Elt Ideal .i32) (hq : Scores.Finite q) (hM : Scores.Finite M) (hr : Rows.Named real) :
    RefProof.probsOf (F := Ideal) q M real = IdealProof.probsOf q M real := by
  unfold RefProof.probsOf IdealProof.probsOf
  rw [idx_eq q M real hq hM]
  exact congrArg (Lines.probs (F := Ideal))
    (Fetch.fetched_eq_products q M _ (Rows.drawn_named (F := Ideal) _ _ hr)).symm

/-- The idealized kernel runs, its inputs unchanged and its counters at zero. -/
theorem kernel_frame : Cert.quiescent_KernelIdeal (hKernelIdeal := Cert.KernelIdeal.Gen.facts) := fun m g _ =>
  (θ_run Cert.KernelIdeal.defs _ _).mono (fun _ h => ⟨fun c => (h.1 c).2.2, h.2⟩) (IdealProof.run m g)

/-- The idealized reference does too. -/
theorem reference_frame : Cert.quiescent_ReferenceIdeal (hReferenceIdeal := Cert.ReferenceIdeal.Gen.facts) := fun m g _ =>
  (θ_run Cert.ReferenceIdeal.defs _ _).mono (fun _ h => ⟨fun c => (h.1 c).2.2, h.2⟩) (RefProof.run (F := Ideal) m g)

/-- The two results agree at inputs as they are drawn. -/
theorem results_agree : Cert.algebraic_KernelIdeal_ReferenceIdeal_pre_inputs_as_drawn
    (hKernelIdeal := Cert.KernelIdeal.Gen.facts) (hReferenceIdeal := Cert.ReferenceIdeal.Gen.facts)
    (hPre_inputs_as_drawn := Drawn.facts) := by
  intro m g m' g' hpre hargs
  refine ⟨_, _, (θ_run Cert.KernelIdeal.defs _ _).mono (fun _ h c => h.1 c) (IdealProof.run m g),
    (θ_run Cert.ReferenceIdeal.defs _ _).mono (fun _ h c => ?_) (RefProof.run (F := Ideal) m' g')⟩
  obtain ⟨h0, h1, ha⟩ := h.1 c
  obtain ⟨e0, e1, e2⟩ := hargs c
  letI := Drawn.facts
  obtain ⟨hq, hM, hr⟩ := Drawn.read _ _ _ (hpre c)
  rw [e0, e1, e2, idx_eq _ _ _ hq hM, probs_eq _ _ _ hq hM hr] at h0 h1
  exact ⟨h0, h1, ha⟩

/-- Everything the certificate claims. -/
theorem claim : Cert.Claim := ⟨Cert.Kernel.Gen.facts, Cert.KernelIdeal.Gen.facts, Cert.ReferenceIdeal.Gen.facts, Drawn.facts,
  fun m g _ => KernelProof.run (F := Bits) m g, kernel_frame, fun m g _ => kernel_frame m g trivial,
  reference_frame, fun m g _ => reference_frame m g trivial, trivial, results_agree⟩

end Cert.Proof

end
